-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Call [hPre_queries : Cert.Pre_queries.Facts] (m : (ℓ : Loc Cert.Call.nD Cert.Call.τ Cert.Call.sig) → Buf (Elt Bits) ℓ) : Prop :=
  ∀ c : Dev Cert.Call.nD,
    (Cert.Pre_queries.fn (F := Bits) (m ((c.tc : Thread Cert.Call.nD Cert.Call.τ).loc Cert.Call.main_arg0)) (m ((c.tc : Thread Cert.Call.nD Cert.Call.τ).loc Cert.Call.main_arg1)) (m ((c.tc : Thread Cert.Call.nD Cert.Call.τ).loc Cert.Call.main_arg2))) = (fun _ => 1#1)

def Pre_CallIdeal [hPre_queries : Cert.Pre_queries.Facts] (m : (ℓ : Loc Cert.CallIdeal.nD Cert.CallIdeal.τ Cert.CallIdeal.sig) → Buf (Elt Ideal) ℓ) : Prop :=
  ∀ c : Dev Cert.CallIdeal.nD,
    (Cert.Pre_queries.fn (F := Ideal) (m ((c.tc : Thread Cert.CallIdeal.nD Cert.CallIdeal.τ).loc Cert.CallIdeal.main_arg0)) (m ((c.tc : Thread Cert.CallIdeal.nD Cert.CallIdeal.τ).loc Cert.CallIdeal.main_arg1)) (m ((c.tc : Thread Cert.CallIdeal.nD Cert.CallIdeal.τ).loc Cert.CallIdeal.main_arg2))) = (fun _ => 1#1)

def Pre_CallReferenceIdeal (m : (ℓ : Loc Cert.CallReferenceIdeal.nD Cert.CallReferenceIdeal.τ Cert.CallReferenceIdeal.sig) → Buf (Elt Ideal) ℓ) : Prop :=
  True

def Pre_CallReferenceIdeal_queries [hPre_queries : Cert.Pre_queries.Facts] (m : (ℓ : Loc Cert.CallReferenceIdeal.nD Cert.CallReferenceIdeal.τ Cert.CallReferenceIdeal.sig) → Buf (Elt Ideal) ℓ) : Prop :=
  ∀ c : Dev Cert.CallReferenceIdeal.nD,
    (Cert.Pre_queries.fn (F := Ideal) (m ((c.tc : Thread Cert.CallReferenceIdeal.nD Cert.CallReferenceIdeal.τ).loc Cert.CallReferenceIdeal.main_arg0)) (m ((c.tc : Thread Cert.CallReferenceIdeal.nD Cert.CallReferenceIdeal.τ).loc Cert.CallReferenceIdeal.main_arg1)) (m ((c.tc : Thread Cert.CallReferenceIdeal.nD Cert.CallReferenceIdeal.τ).loc Cert.CallReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Call [hCall : Cert.Call.Facts] [hPre_queries : Cert.Pre_queries.Facts] : Prop :=
  ∀ (m : (ℓ : Loc Cert.Call.nD Cert.Call.τ Cert.Call.sig) → Buf (Elt Bits) ℓ) (g : Dev Cert.Call.nD → PrngReg), Pre_Call m →
    θ_run (Cert.Call.defs (F := Bits)) (Cert.Call.threads (F := Bits)) ⟨m, fun _ => 0, g⟩ (fun r => (∀ c : Dev Cert.Call.nD,
      r.2.mem ((c.tc : Thread Cert.Call.nD Cert.Call.τ).loc Cert.Call.main_arg0) = m ((c.tc : Thread Cert.Call.nD Cert.Call.τ).loc Cert.Call.main_arg0)
      ∧ r.2.mem ((c.tc : Thread Cert.Call.nD Cert.Call.τ).loc Cert.Call.main_arg1) = m ((c.tc : Thread Cert.Call.nD Cert.Call.τ).loc Cert.Call.main_arg1)
      ∧ r.2.mem ((c.tc : Thread Cert.Call.nD Cert.Call.τ).loc Cert.Call.main_arg2) = m ((c.tc : Thread Cert.Call.nD Cert.Call.τ).loc Cert.Call.main_arg2))
      ∧ r.2.sem = fun _ => 0)

def quiescent_CallIdeal [hCallIdeal : Cert.CallIdeal.Facts] [hPre_queries : Cert.Pre_queries.Facts] : Prop :=
  ∀ (m : (ℓ : Loc Cert.CallIdeal.nD Cert.CallIdeal.τ Cert.CallIdeal.sig) → Buf (Elt Ideal) ℓ) (g : Dev Cert.CallIdeal.nD → PrngReg), Pre_CallIdeal m →
    θ_run (Cert.CallIdeal.defs (F := Ideal)) (Cert.CallIdeal.threads (F := Ideal)) ⟨m, fun _ => 0, g⟩ (fun r => (∀ c : Dev Cert.CallIdeal.nD,
      r.2.mem ((c.tc : Thread Cert.CallIdeal.nD Cert.CallIdeal.τ).loc Cert.CallIdeal.main_arg0) = m ((c.tc : Thread Cert.CallIdeal.nD Cert.CallIdeal.τ).loc Cert.CallIdeal.main_arg0)
      ∧ r.2.mem ((c.tc : Thread Cert.CallIdeal.nD Cert.CallIdeal.τ).loc Cert.CallIdeal.main_arg1) = m ((c.tc : Thread Cert.CallIdeal.nD Cert.CallIdeal.τ).loc Cert.CallIdeal.main_arg1)
      ∧ r.2.mem ((c.tc : Thread Cert.CallIdeal.nD Cert.CallIdeal.τ).loc Cert.CallIdeal.main_arg2) = m ((c.tc : Thread Cert.CallIdeal.nD Cert.CallIdeal.τ).loc Cert.CallIdeal.main_arg2))
      ∧ r.2.sem = fun _ => 0)

def quiescent_CallReferenceIdeal [hCallReferenceIdeal : Cert.CallReferenceIdeal.Facts] : Prop :=
  ∀ (m : (ℓ : Loc Cert.CallReferenceIdeal.nD Cert.CallReferenceIdeal.τ Cert.CallReferenceIdeal.sig) → Buf (Elt Ideal) ℓ) (g : Dev Cert.CallReferenceIdeal.nD → PrngReg), Pre_CallReferenceIdeal m →
    θ_run (Cert.CallReferenceIdeal.defs (F := Ideal)) (onTc (τ := Cert.CallReferenceIdeal.τ) (Cert.CallReferenceIdeal.main (F := Ideal))) ⟨m, fun _ => 0, g⟩ (fun r => (∀ c : Dev Cert.CallReferenceIdeal.nD,
      r.2.mem ((c.tc : Thread Cert.CallReferenceIdeal.nD Cert.CallReferenceIdeal.τ).loc Cert.CallReferenceIdeal.main_arg0) = m ((c.tc : Thread Cert.CallReferenceIdeal.nD Cert.CallReferenceIdeal.τ).loc Cert.CallReferenceIdeal.main_arg0)
      ∧ r.2.mem ((c.tc : Thread Cert.CallReferenceIdeal.nD Cert.CallReferenceIdeal.τ).loc Cert.CallReferenceIdeal.main_arg1) = m ((c.tc : Thread Cert.CallReferenceIdeal.nD Cert.CallReferenceIdeal.τ).loc Cert.CallReferenceIdeal.main_arg1)
      ∧ r.2.mem ((c.tc : Thread Cert.CallReferenceIdeal.nD Cert.CallReferenceIdeal.τ).loc Cert.CallReferenceIdeal.main_arg2) = m ((c.tc : Thread Cert.CallReferenceIdeal.nD Cert.CallReferenceIdeal.τ).loc Cert.CallReferenceIdeal.main_arg2))
      ∧ r.2.sem = fun _ => 0)

def quiescent_CallReferenceIdeal_pre_queries [hCallReferenceIdeal : Cert.CallReferenceIdeal.Facts] [hPre_queries : Cert.Pre_queries.Facts] : Prop :=
  ∀ (m : (ℓ : Loc Cert.CallReferenceIdeal.nD Cert.CallReferenceIdeal.τ Cert.CallReferenceIdeal.sig) → Buf (Elt Ideal) ℓ) (g : Dev Cert.CallReferenceIdeal.nD → PrngReg), Pre_CallReferenceIdeal_queries m →
    θ_run (Cert.CallReferenceIdeal.defs (F := Ideal)) (onTc (τ := Cert.CallReferenceIdeal.τ) (Cert.CallReferenceIdeal.main (F := Ideal))) ⟨m, fun _ => 0, g⟩ (fun r => (∀ c : Dev Cert.CallReferenceIdeal.nD,
      r.2.mem ((c.tc : Thread Cert.CallReferenceIdeal.nD Cert.CallReferenceIdeal.τ).loc Cert.CallReferenceIdeal.main_arg0) = m ((c.tc : Thread Cert.CallReferenceIdeal.nD Cert.CallReferenceIdeal.τ).loc Cert.CallReferenceIdeal.main_arg0)
      ∧ r.2.mem ((c.tc : Thread Cert.CallReferenceIdeal.nD Cert.CallReferenceIdeal.τ).loc Cert.CallReferenceIdeal.main_arg1) = m ((c.tc : Thread Cert.CallReferenceIdeal.nD Cert.CallReferenceIdeal.τ).loc Cert.CallReferenceIdeal.main_arg1)
      ∧ r.2.mem ((c.tc : Thread Cert.CallReferenceIdeal.nD Cert.CallReferenceIdeal.τ).loc Cert.CallReferenceIdeal.main_arg2) = m ((c.tc : Thread Cert.CallReferenceIdeal.nD Cert.CallReferenceIdeal.τ).loc Cert.CallReferenceIdeal.main_arg2))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Call_CallIdeal : Prop :=
  True

def algebraic_CallIdeal_CallReferenceIdeal [hCallIdeal : Cert.CallIdeal.Facts] [hCallReferenceIdeal : Cert.CallReferenceIdeal.Facts] [hPre_queries : Cert.Pre_queries.Facts] : Prop :=
  ∀ (m : (ℓ : Loc Cert.CallIdeal.nD Cert.CallIdeal.τ Cert.CallIdeal.sig) → Buf (Elt Ideal) ℓ) (g : Dev Cert.CallIdeal.nD → PrngReg)
    (m' : (ℓ : Loc Cert.CallReferenceIdeal.nD Cert.CallReferenceIdeal.τ Cert.CallReferenceIdeal.sig) → Buf (Elt Ideal) ℓ) (g' : Dev Cert.CallReferenceIdeal.nD → PrngReg), Pre_CallIdeal m →
    (∀ c : Dev Cert.CallIdeal.nD,
      m' ((c.tc : Thread Cert.CallReferenceIdeal.nD Cert.CallReferenceIdeal.τ).loc Cert.CallReferenceIdeal.main_arg0) = m ((c.tc : Thread Cert.CallIdeal.nD Cert.CallIdeal.τ).loc Cert.CallIdeal.main_arg0)
      ∧ m' ((c.tc : Thread Cert.CallReferenceIdeal.nD Cert.CallReferenceIdeal.τ).loc Cert.CallReferenceIdeal.main_arg1) = m ((c.tc : Thread Cert.CallIdeal.nD Cert.CallIdeal.τ).loc Cert.CallIdeal.main_arg1)
      ∧ m' ((c.tc : Thread Cert.CallReferenceIdeal.nD Cert.CallReferenceIdeal.τ).loc Cert.CallReferenceIdeal.main_arg2) = m ((c.tc : Thread Cert.CallIdeal.nD Cert.CallIdeal.τ).loc Cert.CallIdeal.main_arg2)) →
    ∃ (v0 : (c : Dev Cert.CallIdeal.nD) → Buf (Elt Ideal) ((c.tc : Thread Cert.CallIdeal.nD Cert.CallIdeal.τ).loc Cert.CallIdeal.main_v1)),
      θ_run (Cert.CallIdeal.defs (F := Ideal)) (Cert.CallIdeal.threads (F := Ideal)) ⟨m, fun _ => 0, g⟩ (fun r => ∀ c : Dev Cert.CallIdeal.nD,
          r.2.mem ((c.tc : Thread Cert.CallIdeal.nD Cert.CallIdeal.τ).loc Cert.CallIdeal.main_v1) = v0 c
          ∧ r.2.mem ((c.tc : Thread Cert.CallIdeal.nD Cert.CallIdeal.τ).loc Cert.CallIdeal.main_arg0) = m ((c.tc : Thread Cert.CallIdeal.nD Cert.CallIdeal.τ).loc Cert.CallIdeal.main_arg0)
          ∧ r.2.mem ((c.tc : Thread Cert.CallIdeal.nD Cert.CallIdeal.τ).loc Cert.CallIdeal.main_arg1) = m ((c.tc : Thread Cert.CallIdeal.nD Cert.CallIdeal.τ).loc Cert.CallIdeal.main_arg1)
          ∧ r.2.mem ((c.tc : Thread Cert.CallIdeal.nD Cert.CallIdeal.τ).loc Cert.CallIdeal.main_arg2) = m ((c.tc : Thread Cert.CallIdeal.nD Cert.CallIdeal.τ).loc Cert.CallIdeal.main_arg2))
      ∧ θ_run (Cert.CallReferenceIdeal.defs (F := Ideal)) (onTc (τ := Cert.CallReferenceIdeal.τ) (Cert.CallReferenceIdeal.main (F := Ideal))) ⟨m', fun _ => 0, g'⟩ (fun r => ∀ c : Dev Cert.CallReferenceIdeal.nD,
          r.2.mem ((c.tc : Thread Cert.CallReferenceIdeal.nD Cert.CallReferenceIdeal.τ).loc Cert.CallReferenceIdeal.main_v5) = v0 c
          ∧ r.2.mem ((c.tc : Thread Cert.CallReferenceIdeal.nD Cert.CallReferenceIdeal.τ).loc Cert.CallReferenceIdeal.main_arg0) = m' ((c.tc : Thread Cert.CallReferenceIdeal.nD Cert.CallReferenceIdeal.τ).loc Cert.CallReferenceIdeal.main_arg0)
          ∧ r.2.mem ((c.tc : Thread Cert.CallReferenceIdeal.nD Cert.CallReferenceIdeal.τ).loc Cert.CallReferenceIdeal.main_arg1) = m' ((c.tc : Thread Cert.CallReferenceIdeal.nD Cert.CallReferenceIdeal.τ).loc Cert.CallReferenceIdeal.main_arg1)
          ∧ r.2.mem ((c.tc : Thread Cert.CallReferenceIdeal.nD Cert.CallReferenceIdeal.τ).loc Cert.CallReferenceIdeal.main_arg2) = m' ((c.tc : Thread Cert.CallReferenceIdeal.nD Cert.CallReferenceIdeal.τ).loc Cert.CallReferenceIdeal.main_arg2))

def Claim : Prop :=
  ∃ (hKernelIdeal : Cert.KernelIdeal.Facts) (hReferenceIdeal : Cert.ReferenceIdeal.Facts) (hCall : Cert.Call.Facts) (hCallIdeal : Cert.CallIdeal.Facts) (hCallReferenceIdeal : Cert.CallReferenceIdeal.Facts) (hPre_finite : Cert.Pre_finite.Facts) (hPre_queries : Cert.Pre_queries.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Call (hCall := hCall) (hPre_queries := hPre_queries)
    ∧ quiescent_CallIdeal (hCallIdeal := hCallIdeal) (hPre_queries := hPre_queries)
    ∧ quiescent_CallReferenceIdeal (hCallReferenceIdeal := hCallReferenceIdeal)
    ∧ quiescent_CallReferenceIdeal_pre_queries (hCallReferenceIdeal := hCallReferenceIdeal) (hPre_queries := hPre_queries)
    ∧ algebraic_KernelIdeal_ReferenceIdeal_pre_finite (hKernelIdeal := hKernelIdeal) (hReferenceIdeal := hReferenceIdeal) (hPre_finite := hPre_finite)
    ∧ preserves_Call_CallIdeal
    ∧ algebraic_CallIdeal_CallReferenceIdeal (hCallIdeal := hCallIdeal) (hCallReferenceIdeal := hCallReferenceIdeal) (hPre_queries := hPre_queries)
-- ==== Pre_finite.lean ====
abbrev S2x150x151 : Shape := ⟨3, ![2, 150, 151]⟩
abbrev S2x150x384x384 : Shape := ⟨4, ![2, 150, 384, 384]⟩
abbrev S_ : Shape := ⟨0, ![]⟩

class Facts : Prop where
  bcast_S_S2x150x151 : S_.BroadcastsInDim S2x150x151 (![] : Fin 0 → Fin S2x150x151.rank)
  reducesTo_S2x150x151_S_d0_1_2 : S2x150x151.ReducesTo [0, 1, 2] S_
  h_S_ : 0 < S_.numel

variable [Facts]

def fn {F : FTy → Type} [FloatOps F] (main_arg0 : FVec F S2x150x151 .f32) (main_arg1 : FVec F S2x150x384x384 .f32) : IVec S_ 1 :=
  let main_v0 : FVec F S2x150x151 .f32 := Host.absf main_arg0
  let main_cst : FVec F S_ .f32 := constant S_ .f32 0x7F800000#32
  let main_v1 : FVec F S2x150x151 .f32 := broadcastInDim S2x150x151 ![] bcast_S_S2x150x151 main_cst
  let main_v2 : IVec S2x150x151 1 := cmpf .olt main_v0 main_v1
  let main_c : IVec S_ 1 := constantI S_ 1 1#1
  let main_v3 : IVec S_ 1 := (fun x v => Host.reduce IntOp.andi x v reducesTo_S2x150x151_S_d0_1_2 h_S_) main_v2 main_c
  main_v3
-- ==== Pre_queries.lean ====
abbrev S2x128 : Shape := ⟨2, ![2, 128]⟩
abbrev S2x1x160 : Shape := ⟨3, ![2, 1, 160]⟩
abbrev S_ : Shape := ⟨0, ![]⟩

class Facts : Prop where
  bcast_S_S2x128 : S_.BroadcastsInDim S2x128 (![] : Fin 0 → Fin S2x128.rank)
  reducesTo_S2x128_S_d0_1 : S2x128.ReducesTo [0, 1] S_
  h_S_ : 0 < S_.numel

variable [Facts]

def fn {F : FTy → Type} [FloatOps F] (main_arg0 : FVec F S2x128 .f32) (main_arg1 : IVec S2x128 32) (main_arg2 : FVec F S2x1x160 .f32) : IVec S_ 1 :=
  let main_c : IVec S_ 32 := constantI S_ 32 0#32
  let main_v0 : IVec S2x128 32 := broadcastInDim S2x128 ![] bcast_S_S2x128 main_c
  let main_v1 : IVec S2x128 1 := cmpi .sge main_arg1 main_v0
  let main_c_0 : IVec S_ 32 := constantI S_ 32 150#32
  let main_v2 : IVec S2x128 32 := broadcastInDim S2x128 ![] bcast_S_S2x128 main_c_0
  let main_v3 : IVec S2x128 1 := cmpi .slt main_arg1 main_v2
  let main_v4 : IVec S2x128 1 := andi main_v1 main_v3
  let main_c_1 : IVec S_ 1 := constantI S_ 1 1#1
  let main_v5 : IVec S_ 1 := (fun x v => Host.reduce IntOp.andi x v reducesTo_S2x128_S_d0_1 h_S_) main_v4 main_c_1
  main_v5
-- ==== KernelIdeal.lean ====
abbrev S2x150x151 : Shape := ⟨3, ![2, 150, 151]⟩
abbrev S2x150x384x384 : Shape := ⟨4, ![2, 150, 384, 384]⟩
abbrev S2x150x150 : Shape := ⟨3, ![2, 150, 150]⟩
abbrev S2x128 : Shape := ⟨2, ![2, 128]⟩
abbrev S2x128x150 : Shape := ⟨3, ![2, 128, 150]⟩
abbrev S2x150 : Shape := ⟨2, ![2, 150]⟩
abbrev S2x150x1 : Shape := ⟨3, ![2, 150, 1]⟩
abbrev S1x150x1 : Shape := ⟨3, ![1, 150, 1]⟩
abbrev S1x1x150 : Shape := ⟨3, ![1, 1, 150]⟩
abbrev S1x1x128 : Shape := ⟨3, ![1, 1, 128]⟩
abbrev S2x1x150 : Shape := ⟨3, ![2, 1, 150]⟩
abbrev S2x1x128 : Shape := ⟨3, ![2, 1, 128]⟩
abbrev S2x1 : Shape := ⟨2, ![2, 1]⟩
abbrev S2x1x1 : Shape := ⟨3, ![2, 1, 1]⟩
abbrev S2x150x128 : Shape := ⟨3, ![2, 150, 128]⟩
abbrev S2x100x384x384 : Shape := ⟨4, ![2, 100, 384, 384]⟩
abbrev S2x1x160 : Shape := ⟨3, ![2, 1, 160]⟩
abbrev S1x150x32x384 : Shape := ⟨4, ![1, 150, 32, 384]⟩
abbrev S1x150x150 : Shape := ⟨3, ![1, 150, 150]⟩
abbrev S1x128x150 : Shape := ⟨3, ![1, 128, 150]⟩
abbrev S1x100x32x384 : Shape := ⟨4, ![1, 100, 32, 384]⟩
abbrev S1x1x160 : Shape := ⟨3, ![1, 1, 160]⟩
abbrev S150x1 : Shape := ⟨2, ![150, 1]⟩
abbrev S150x32x384 : Shape := ⟨3, ![150, 32, 384]⟩
abbrev S150x12288 : Shape := ⟨2, ![150, 12288]⟩
abbrev S150x150 : Shape := ⟨2, ![150, 150]⟩
abbrev S128x150 : Shape := ⟨2, ![128, 150]⟩
abbrev S128x12288 : Shape := ⟨2, ![128, 12288]⟩
abbrev S100x12288 : Shape := ⟨2, ![100, 12288]⟩
abbrev S100x32x384 : Shape := ⟨3, ![100, 32, 384]⟩
abbrev S150 : Shape := ⟨1, ![150]⟩
abbrev S1x150 : Shape := ⟨2, ![1, 150]⟩
abbrev S1x10 : Shape := ⟨2, ![1, 10]⟩
abbrev S1x160 : Shape := ⟨2, ![1, 160]⟩
abbrev S16 : Shape := ⟨1, ![16]⟩
abbrev S160 : Shape := ⟨1, ![160]⟩
abbrev S_ : Shape := ⟨0, ![]⟩
abbrev S1x16 : Shape := ⟨2, ![1, 16]⟩
abbrev S2x100 : Shape := ⟨2, ![2, 100]⟩

abbrev nBuf : Table → Nat
  | .hbm => 13
  | .local .tc .vmem => 20
  | .local .scVector .vmem => 4
  | _ => 0

abbrev bufTy : (tb : Table) → Fin (nBuf tb) → BufTy
  | .hbm, ⟨0, _⟩ => ⟨S2x150x151, .f32⟩
  | .hbm, ⟨1, _⟩ => ⟨S2x150x384x384, .f32⟩
  | .hbm, ⟨2, _⟩ => ⟨S2x150x150, .f32⟩
  | .hbm, ⟨3, _⟩ => ⟨S2x128, .f32⟩
  | .hbm, ⟨4, _⟩ => ⟨S2x128, .i32⟩
  | .hbm, ⟨5, _⟩ => ⟨S2x128, .i32⟩
  | .hbm, ⟨6, _⟩ => ⟨S2x128x150, .f32⟩
  | .hbm, ⟨7, _⟩ => ⟨S2x150x384x384, .f32⟩
  | .hbm, ⟨8, _⟩ => ⟨S2x100x384x384, .f32⟩
  | .hbm, ⟨9, _⟩ => ⟨S2x1x160, .f32⟩
  | .hbm, ⟨10, _⟩ => ⟨S2x128, .f32⟩
  | .hbm, ⟨11, _⟩ => ⟨S2x100, .f32⟩
  | .hbm, ⟨12, _⟩ => ⟨S2x100, .i32⟩
  | .local .tc .vmem, ⟨0, _⟩ => ⟨S2x150x151, .f32⟩
  | .local .tc .vmem, ⟨1, _⟩ => ⟨S2x150x150, .f32⟩
  | .local .tc .vmem, ⟨2, _⟩ => ⟨S2x128, .f32⟩
  | .local .tc .vmem, ⟨3, _⟩ => ⟨S2x128, .i32⟩
  | .local .tc .vmem, ⟨4, _⟩ => ⟨S2x128, .i32⟩
  | .local .tc .vmem, ⟨5, _⟩ => ⟨S2x128x150, .f32⟩
  | .local .tc .vmem, ⟨6, _⟩ => ⟨S1x150x32x384, .f32⟩
  | .local .tc .vmem, ⟨7, _⟩ => ⟨S1x150x32x384, .f32⟩
  | .local .tc .vmem, ⟨8, _⟩ => ⟨S1x150x150, .f32⟩
  | .local .tc .vmem, ⟨9, _⟩ => ⟨S1x150x150, .f32⟩
  | .local .tc .vmem, ⟨10, _⟩ => ⟨S1x128x150, .f32⟩
  | .local .tc .vmem, ⟨11, _⟩ => ⟨S1x128x150, .f32⟩
  | .local .tc .vmem, ⟨12, _⟩ => ⟨S1x150x32x384, .f32⟩
  | .local .tc .vmem, ⟨13, _⟩ => ⟨S1x150x32x384, .f32⟩
  | .local .tc .vmem, ⟨14, _⟩ => ⟨S1x100x32x384, .f32⟩
  | .local .tc .vmem, ⟨15, _⟩ => ⟨S1x100x32x384, .f32⟩
  | .local .tc .vmem, ⟨16, _⟩ => ⟨S1x1x160, .f32⟩
  | .local .tc .vmem, ⟨17, _⟩ => ⟨S1x1x160, .f32⟩
  | .local .tc .vmem, ⟨18, _⟩ => ⟨S150x1, .f32⟩
  | .local .tc .vmem, ⟨19, _⟩ => ⟨S150x1, .f32⟩
  | .local .scVector .vmem, ⟨0, _⟩ => ⟨S16, .f32⟩
  | .local .scVector .vmem, ⟨1, _⟩ => ⟨S16, .i32⟩
  | .local .scVector .vmem, ⟨2, _⟩ => ⟨S160, .f32⟩
  | .local .scVector .vmem, ⟨3, _⟩ => ⟨S16, .f32⟩
  | _, _ => ⟨S2x150x151, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v0_1_scv : Ref sig .scVector := ⟨.hbm, 3, rfl⟩
abbrev main_v0_3_scv : Ref sig .scVector := ⟨.hbm, 5, rfl⟩
abbrev main_v1_2_scv : Ref sig .scVector := ⟨.hbm, 9, rfl⟩
abbrev main_v2_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c100_i32 : BitVec 32 := 100#32
  let v28 : BitVec 32 := Scalar.addi c0_i32_9 c100_i32
  let c1_i32 : BitVec 32 := 1#32
  ⟨c0_i32_9, v28, c1_i32⟩
abbrev stage0_0 : Fin 1 → Memref sig .tc .vmem S2x150x151 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x150x150 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 12], ![false, false]⟩

def k1_cond3 (i : grid1.Coords) : BitVec 1 :=
  let arg1 : BitVec 32 := BitVec.ofNat 32 (i 1).val
  let c11_i32 : BitVec 32 := 11#32
  let v43 : BitVec 1 := Scalar.cmpi .eq arg1 c11_i32
  let v44 : BitVec 32 := Scalar.extui v43
  let c0_i32_28 : BitVec 32 := 0#32
  let v45 : BitVec 1 := Scalar.cmpi .ne v44 c0_i32_28
  v45

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x150x32x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x150x150 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x150 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x150x32x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x100x32x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 16], ![false, false]⟩

def k2_cond1 (i : grid2.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k2_off1 (i : grid2.Coords) : Fin 2 → Nat :=
  let arg0 : BitVec 32 := BitVec.ofNat 32 (i 0).val
  let arg1 : BitVec 32 := BitVec.ofNat 32 (i 1).val
  let c16_i32 : BitVec 32 := 16#32
  let v3 : BitVec 32 := Scalar.muli arg1 c16_i32
  ![arg0.toNat, v3.toNat]
def k2_off2 (i : grid2.Coords) : Fin 3 → Nat :=
  let arg0 : BitVec 32 := BitVec.ofNat 32 (i 0).val
  let c0_i32_0 : BitVec 32 := 0#32
  let c0_i32_3_r2 : BitVec 32 := 0#32
  ![arg0.toNat, 0, 0]

def k2_chk1 (i : grid2.Coords) (v4 : IVec S16 32) : Prop :=
  (∀ (k2_h1 : k2_cond1 i = 1#1), ∀ a x, ((![v4] : Fin 1 → IVec S16 32) a x).toNat < S160.size a)
theorem k2_idx1_inb : ∀ (i : grid2.Coords) (v4 : IVec S16 32) (k2_hw1 : k2_chk1 i v4), ∀ (k2_h1 : k2_cond1 i = 1#1), ∀ a x, ((![v4] : Fin 1 → IVec S16 32) a x).toNat < S160.size a := fun i v4 k2_hw1 k2_h1 => k2_hw1 k2_h1
def k2_off3 (i : grid2.Coords) : Fin 2 → Nat :=
  let arg0 : BitVec 32 := BitVec.ofNat 32 (i 0).val
  let arg1 : BitVec 32 := BitVec.ofNat 32 (i 1).val
  let c16_i32 : BitVec 32 := 16#32
  let v3 : BitVec 32 := Scalar.muli arg1 c16_i32
  ![arg0.toNat, v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x150x151 : Shape := ⟨3, ![2, 150, 151]⟩
abbrev S2x150x384x384 : Shape := ⟨4, ![2, 150, 384, 384]⟩
abbrev S_ : Shape := ⟨0, ![]⟩
abbrev S2x150 : Shape := ⟨2, ![2, 150]⟩
abbrev S2x150x1 : Shape := ⟨3, ![2, 150, 1]⟩
abbrev S2x150x150 : Shape := ⟨3, ![2, 150, 150]⟩
abbrev S150 : Shape := ⟨1, ![150]⟩
abbrev S1x150 : Shape := ⟨2, ![1, 150]⟩
abbrev S1x1x1x150 : Shape := ⟨4, ![1, 1, 1, 150]⟩
abbrev S150x1x1x150 : Shape := ⟨4, ![150, 1, 1, 150]⟩
abbrev S150x150 : Shape := ⟨2, ![150, 150]⟩
abbrev S22500 : Shape := ⟨1, ![22500]⟩
abbrev S2x22500 : Shape := ⟨2, ![2, 22500]⟩
abbrev S2x100 : Shape := ⟨2, ![2, 100]⟩
abbrev S2x100x1 : Shape := ⟨3, ![2, 100, 1]⟩
abbrev S1 : Shape := ⟨1, ![1]⟩
abbrev S1x1x1 : Shape := ⟨3, ![1, 1, 1]⟩
abbrev S2x100x384x384 : Shape := ⟨4, ![2, 100, 384, 384]⟩
abbrev S2x100x147456 : Shape := ⟨3, ![2, 100, 147456]⟩

abbrev nBuf : Space → Nat
  | .hbm => 124
  | .vmem => 0
  | .smem => 0
  | _ => 0

abbrev bufTy : (tb : Table) → Fin (tcTables nBuf tb) → BufTy
  | .hbm, ⟨0, _⟩ => ⟨S2x150x151, .f32⟩
  | .hbm, ⟨1, _⟩ => ⟨S2x150x384x384, .f32⟩
  | .hbm, ⟨2, _⟩ => ⟨S_, .f32⟩
  | .hbm, ⟨3, _⟩ => ⟨S2x150, .f32⟩
  | .hbm, ⟨4, _⟩ => ⟨S_, .f32⟩
  | .hbm, ⟨5, _⟩ => ⟨S2x150, .f32⟩
  | .hbm, ⟨6, _⟩ => ⟨S2x150, .f32⟩
  | .hbm, ⟨7, _⟩ => ⟨S2x150x1, .f32⟩
  | .hbm, ⟨8, _⟩ => ⟨S2x150x151, .f32⟩
  | .hbm, ⟨9, _⟩ => ⟨S2x150x151, .f32⟩
  | .hbm, ⟨10, _⟩ => ⟨S2x150x151, .f32⟩
  | .hbm, ⟨11, _⟩ => ⟨S_, .f32⟩
  | .hbm, ⟨12, _⟩ => ⟨S2x150, .f32⟩
  | .hbm, ⟨13, _⟩ => ⟨S2x150x1, .f32⟩
  | .hbm, ⟨14, _⟩ => ⟨S2x150x151, .f32⟩
  | .hbm, ⟨15, _⟩ => ⟨S2x150x151, .f32⟩
  | .hbm, ⟨16, _⟩ => ⟨S2x150x150, .f32⟩
  | .hbm, ⟨17, _⟩ => ⟨S2x150x384x384, .f32⟩
  | .hbm, ⟨18, _⟩ => ⟨S2x150x384x384, .f32⟩
  | .hbm, ⟨19, _⟩ => ⟨S_, .f32⟩
  | .hbm, ⟨20, _⟩ => ⟨S2x150x384x384, .f32⟩
  | .hbm, ⟨21, _⟩ => ⟨S2x150x384x384, .f32⟩
  | .hbm, ⟨22, _⟩ => ⟨S_, .f32⟩
  | .hbm, ⟨23, _⟩ => ⟨S2x150x384x384, .f32⟩
  | .hbm, ⟨24, _⟩ => ⟨S2x150x384x384, .f32⟩
  | .hbm, ⟨25, _⟩ => ⟨S2x150x384x384, .f32⟩
  | .hbm, ⟨26, _⟩ => ⟨S_, .f32⟩
  | .hbm, ⟨27, _⟩ => ⟨S2x150, .f32⟩
  | .hbm, ⟨28, _⟩ => ⟨S_, .f32⟩
  | .hbm, ⟨29, _⟩ => ⟨S2x150, .f32⟩
  | .hbm, ⟨30, _⟩ => ⟨S2x150, .f32⟩
  | .hbm, ⟨31, _⟩ => ⟨S2x150x1, .f32⟩
  | .hbm, ⟨32, _⟩ => ⟨S2x150x151, .f32⟩
  | .hbm, ⟨33, _⟩ => ⟨S2x150x151, .f32⟩
  | .hbm, ⟨34, _⟩ => ⟨S2x150x151, .f32⟩
  | .hbm, ⟨35, _⟩ => ⟨S_, .f32⟩
  | .hbm, ⟨36, _⟩ => ⟨S2x150, .f32⟩
  | .hbm, ⟨37, _⟩ => ⟨S2x150x1, .f32⟩
  | .hbm, ⟨38, _⟩ => ⟨S2x150x151, .f32⟩
  | .hbm, ⟨39, _⟩ => ⟨S2x150x151, .f32⟩
  | .hbm, ⟨40, _⟩ => ⟨S2x150x150, .f32⟩
  | .hbm, ⟨41, _⟩ => ⟨S150, .i32⟩
  | .hbm, ⟨42, _⟩ => ⟨S1x150, .i32⟩
  | .hbm, ⟨43, _⟩ => ⟨S1x1x1x150, .i32⟩
  | .hbm, ⟨44, _⟩ => ⟨S150x1x1x150, .i32⟩
  | .hbm, ⟨45, _⟩ => ⟨S150x150, .i32⟩
  | .hbm, ⟨46, _⟩ => ⟨S22500, .i32⟩
  | .hbm, ⟨47, _⟩ => ⟨S2x22500, .f32⟩
  | .hbm, ⟨48, _⟩ => ⟨S2x100, .f32⟩
  | .hbm, ⟨49, _⟩ => ⟨S2x100, .i32⟩
  | .hbm, ⟨50, _⟩ => ⟨S_, .i32⟩
  | .hbm, ⟨51, _⟩ => ⟨S2x100, .i32⟩
  | .hbm, ⟨52, _⟩ => ⟨S2x100, .i1⟩
  | .hbm, ⟨53, _⟩ => ⟨S_, .i32⟩
  | .hbm, ⟨54, _⟩ => ⟨S2x100, .i32⟩
  | .hbm, ⟨55, _⟩ => ⟨S2x100, .i32⟩
  | .hbm, ⟨56, _⟩ => ⟨S2x100, .i32⟩
  | .hbm, ⟨57, _⟩ => ⟨S2x100x1, .i32⟩
  | .hbm, ⟨58, _⟩ => ⟨S2x100, .i32⟩
  | .hbm, ⟨59, _⟩ => ⟨S_, .i32⟩
  | .hbm, ⟨60, _⟩ => ⟨S_, .i32⟩
  | .hbm, ⟨61, _⟩ => ⟨S2x100, .i32⟩
  | .hbm, ⟨62, _⟩ => ⟨S2x100, .i32⟩
  | .hbm, ⟨63, _⟩ => ⟨S2x100, .i32⟩
  | .hbm, ⟨64, _⟩ => ⟨S_, .i32⟩
  | .hbm, ⟨65, _⟩ => ⟨S2x100, .i32⟩
  | .hbm, ⟨66, _⟩ => ⟨S2x100, .i1⟩
  | .hbm, ⟨67, _⟩ => ⟨S2x100, .i32⟩
  | .hbm, ⟨68, _⟩ => ⟨S2x100, .i32⟩
  | .hbm, ⟨69, _⟩ => ⟨S_, .i32⟩
  | .hbm, ⟨70, _⟩ => ⟨S2x100, .i32⟩
  | .hbm, ⟨71, _⟩ => ⟨S2x100, .i1⟩
  | .hbm, ⟨72, _⟩ => ⟨S2x100, .i1⟩
  | .hbm, ⟨73, _⟩ => ⟨S_, .i32⟩
  | .hbm, ⟨74, _⟩ => ⟨S2x100, .i32⟩
  | .hbm, ⟨75, _⟩ => ⟨S2x100, .i32⟩
  | .hbm, ⟨76, _⟩ => ⟨S2x100, .i32⟩
  | .hbm, ⟨77, _⟩ => ⟨S_, .i32⟩
  | .hbm, ⟨78, _⟩ => ⟨S2x100, .i32⟩
  | .hbm, ⟨79, _⟩ => ⟨S2x100, .i1⟩
  | .hbm, ⟨80, _⟩ => ⟨S_, .i32⟩
  | .hbm, ⟨81, _⟩ => ⟨S2x100, .i32⟩
  | .hbm, ⟨82, _⟩ => ⟨S2x100, .i32⟩
  | .hbm, ⟨83, _⟩ => ⟨S2x100, .i32⟩
  | .hbm, ⟨84, _⟩ => ⟨S2x100x1, .i32⟩
  | .hbm, ⟨85, _⟩ => ⟨S1, .i32⟩
  | .hbm, ⟨86, _⟩ => ⟨S_, .i32⟩
  | .hbm, ⟨87, _⟩ => ⟨S2x100x1, .i32⟩
  | .hbm, ⟨88, _⟩ => ⟨S2x100x1, .i1⟩
  | .hbm, ⟨89, _⟩ => ⟨S1x1x1, .i32⟩
  | .hbm, ⟨90, _⟩ => ⟨S2x100x1, .i32⟩
  | .hbm, ⟨91, _⟩ => ⟨S2x100x1, .i1⟩
  | .hbm, ⟨92, _⟩ => ⟨S2x100x1, .i1⟩
  | .hbm, ⟨93, _⟩ => ⟨S_, .i1⟩
  | .hbm, ⟨94, _⟩ => ⟨S2x100, .i1⟩
  | .hbm, ⟨95, _⟩ => ⟨S2x100x384x384, .f32⟩
  | .hbm, ⟨96, _⟩ => ⟨S2x100x384x384, .i1⟩
  | .hbm, ⟨97, _⟩ => ⟨S_, .f32⟩
  | .hbm, ⟨98, _⟩ => ⟨S2x100x384x384, .f32⟩
  | .hbm, ⟨99, _⟩ => ⟨S2x100x384x384, .f32⟩
  | .hbm, ⟨100, _⟩ => ⟨S_, .f32⟩
  | .hbm, ⟨101, _⟩ => ⟨S2x100x384x384, .f32⟩
  | .hbm, ⟨102, _⟩ => ⟨S2x100x384x384, .i1⟩
  | .hbm, ⟨103, _⟩ => ⟨S2x100x384x384, .f32⟩
  | .hbm, ⟨104, _⟩ => ⟨S2x100x384x384, .f32⟩
  | .hbm, ⟨105, _⟩ => ⟨S2x100x384x384, .f32⟩
  | .hbm, ⟨106, _⟩ => ⟨S_, .f32⟩
  | .hbm, ⟨107, _⟩ => ⟨S2x100x384x384, .f32⟩
  | .hbm, ⟨108, _⟩ => ⟨S2x100x384x384, .f32⟩
  | .hbm, ⟨109, _⟩ => ⟨S_, .f32⟩
  | .hbm, ⟨110, _⟩ => ⟨S2x100x384x384, .f32⟩
  | .hbm, ⟨111, _⟩ => ⟨S2x100x384x384, .f32⟩
  | .hbm, ⟨112, _⟩ => ⟨S2x100x147456, .f32⟩
  | .hbm, ⟨113, _⟩ => ⟨S2x100x147456, .f32⟩
  | .hbm, ⟨114, _⟩ => ⟨S2x100x147456, .f32⟩
  | .hbm, ⟨115, _⟩ => ⟨S_, .f32⟩
  | .hbm, ⟨116, _⟩ => ⟨S2x100, .f32⟩
  | .hbm, ⟨117, _⟩ => ⟨S_, .f32⟩
  | .hbm, ⟨118, _⟩ => ⟨S2x100, .f32⟩
  | .hbm, ⟨119, _⟩ => ⟨S_, .f32⟩
  | .hbm, ⟨120, _⟩ => ⟨S2x100, .f32⟩
  | .hbm, ⟨121, _⟩ => ⟨S2x100, .f32⟩
  | .hbm, ⟨122, _⟩ => ⟨S2x100, .f32⟩
  | .hbm, ⟨123, _⟩ => ⟨S2x100, .f32⟩
  | _, _ => ⟨S2x150x151, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_values : Ref sig .tc := ⟨.hbm, 48, rfl⟩
abbrev main_indices : Ref sig .tc := ⟨.hbm, 49, rfl⟩
abbrev main_c : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_c : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_0 : Ref sig .tc := ⟨.hbm, 73, rfl⟩
abbrev main_call0_v12 : Ref sig .tc := ⟨.hbm, 74, rfl⟩
abbrev main_call0_v13 : Ref sig .tc := ⟨.hbm, 75, rfl⟩
abbrev main_v45 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v46 : Ref sig .tc := ⟨.hbm, 99, rfl⟩
abbrev main_cst_9 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_10 : Ref sig .tc := ⟨.hbm, 106, rfl⟩
abbrev main_v52 : Ref sig .tc := ⟨.hbm, 107, rfl⟩
abbrev main_v53 : Ref sig .tc := ⟨.hbm, 108, rfl⟩
abbrev main_cst_11 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_12 : Ref sig .tc := ⟨.hbm, 115, rfl⟩
abbrev main_v59 : Ref sig .tc := ⟨.hbm, 116, rfl⟩
abbrev main_cst_13 : Ref sig .tc := ⟨.hbm, 117, rfl⟩
abbrev main_v60 : Ref sig .tc := ⟨.hbm, 118, rfl⟩
abbrev main_cst_14 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩

abbrev nD : Nat := 1
abbrev τ : Topo := Topo.v7x

variable {F : FTy → Type} [FloatOps F]
-- ==== Call.lean ====
abbrev S2x128 : Shape := ⟨2, ![2, 128]⟩
abbrev S2x1x160 : Shape := ⟨3, ![2, 1, 160]⟩
abbrev S16 : Shape := ⟨1, ![16]⟩
abbrev S160 : Shape := ⟨1, ![160]⟩
abbrev S_ : Shape := ⟨0, ![]⟩
abbrev S1x16 : Shape := ⟨2, ![1, 16]⟩
abbrev S1x1x160 : Shape := ⟨3, ![1, 1, 160]⟩
abbrev S2x100 : Shape := ⟨2, ![2, 100]⟩

abbrev nBuf : Table → Nat
  | .hbm => 5
  | .local .scVector .vmem => 4
  | _ => 0

abbrev bufTy : (tb : Table) → Fin (nBuf tb) → BufTy
  | .hbm, ⟨0, _⟩ => ⟨S2x128, .f32⟩
  | .hbm, ⟨1, _⟩ => ⟨S2x128, .i32⟩
  | .hbm, ⟨2, _⟩ => ⟨S2x1x160, .f32⟩
  | .hbm, ⟨3, _⟩ => ⟨S2x128, .f32⟩
  | .hbm, ⟨4, _⟩ => ⟨S2x100, .f32⟩
  | .local .scVector .vmem, ⟨0, _⟩ => ⟨S16, .f32⟩
  | .local .scVector .vmem, ⟨1, _⟩ => ⟨S16, .i32⟩
  | .local .scVector .vmem, ⟨2, _⟩ => ⟨S160, .f32⟩
  | .local .scVector .vmem, ⟨3, _⟩ => ⟨S16, .f32⟩
  | _, _ => ⟨S2x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let arg1 : BitVec 32 := BitVec.ofNat 32 (i 1).val
  let c16_i32 : BitVec 32 := 16#32
  let v3 : BitVec 32 := Scalar.muli arg1 c16_i32
  ![arg0.toNat, v3.toNat]
def k0_off2 (i : grid0.Coords) : Fin 3 → Nat :=
  let arg0 : BitVec 32 := BitVec.ofNat 32 (i 0).val
  let c0_i32_0 : BitVec 32 := 0#32
  let c0_i32_3_r2 : BitVec 32 := 0#32
  ![arg0.toNat, 0, 0]

def k0_chk1 (i : grid0.Coords) (v4 : IVec S16 32) : Prop :=
  (∀ (k0_h1 : k0_cond1 i = 1#1), ∀ a x, ((![v4] : Fin 1 → IVec S16 32) a x).toNat < S160.size a)
theorem k0_idx1_inb : ∀ (i : grid0.Coords) (v4 : IVec S16 32) (k0_hw1 : k0_chk1 i v4), ∀ (k0_h1 : k0_cond1 i = 1#1), ∀ a x, ((![v4] : Fin 1 → IVec S16 32) a x).toNat < S160.size a := fun i v4 k0_hw1 k0_h1 => k0_hw1 k0_h1
def k0_off3 (i : grid0.Coords) : Fin 2 → Nat :=
  let arg0 : BitVec 32 := BitVec.ofNat 32 (i 0).val
  let arg1 : BitVec 32 := BitVec.ofNat 32 (i 1).val
  let c16_i32 : BitVec 32 := 16#32
  let v3 : BitVec 32 := Scalar.muli arg1 c16_i32
  ![arg0.toNat, v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CallReferenceIdeal.lean ====
abbrev S2x128 : Shape := ⟨2, ![2, 128]⟩
abbrev S2x1x160 : Shape := ⟨3, ![2, 1, 160]⟩
abbrev S2x100 : Shape := ⟨2, ![2, 100]⟩
abbrev S2x1x150 : Shape := ⟨3, ![2, 1, 150]⟩
abbrev S2x150 : Shape := ⟨2, ![2, 150]⟩
abbrev S_ : Shape := ⟨0, ![]⟩
abbrev S2x100x1 : Shape := ⟨3, ![2, 100, 1]⟩
abbrev S1 : Shape := ⟨1, ![1]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .i32⟩
  | .hbm, ⟨2, _⟩ => ⟨S2x1x160, .f32⟩
  | .hbm, ⟨3, _⟩ => ⟨S2x100, .f32⟩
  | .hbm, ⟨4, _⟩ => ⟨S2x1x150, .f32⟩
  | .hbm, ⟨5, _⟩ => ⟨S2x150, .f32⟩
  | .hbm, ⟨6, _⟩ => ⟨S2x100, .i32⟩
  | .hbm, ⟨7, _⟩ => ⟨S_, .i32⟩
  | .hbm, ⟨8, _⟩ => ⟨S2x100, .i32⟩
  | .hbm, ⟨9, _⟩ => ⟨S2x100, .i1⟩
  | .hbm, ⟨10, _⟩ => ⟨S_, .i32⟩
  | .hbm, ⟨11, _⟩ => ⟨S2x100, .i32⟩
  | .hbm, ⟨12, _⟩ => ⟨S2x100, .i32⟩
  | .hbm, ⟨13, _⟩ => ⟨S2x100, .i32⟩
  | .hbm, ⟨14, _⟩ => ⟨S2x100x1, .i32⟩
  | .hbm, ⟨15, _⟩ => ⟨S1, .i32⟩
  | .hbm, ⟨16, _⟩ => ⟨S_, .i32⟩
  | .hbm, ⟨17, _⟩ => ⟨S2x100x1, .i32⟩
  | .hbm, ⟨18, _⟩ => ⟨S2x100x1, .i1⟩
  | .hbm, ⟨19, _⟩ => ⟨S1x1x1, .i32⟩
  | .hbm, ⟨20, _⟩ => ⟨S2x100x1, .i32⟩
  | .hbm, ⟨21, _⟩ => ⟨S2x100x1, .i1⟩
  | .hbm, ⟨22, _⟩ => ⟨S2x100x1, .i1⟩
  | .hbm, ⟨23, _⟩ => ⟨S_, .i1⟩
  | .hbm, ⟨24, _⟩ => ⟨S2x100, .i1⟩
  | .hbm, ⟨25, _⟩ => ⟨S2x100, .f32⟩
  | .hbm, ⟨26, _⟩ => ⟨S_, .f32⟩
  | .hbm, ⟨27, _⟩ => ⟨S2x100, .f32⟩
  | .hbm, ⟨28, _⟩ => ⟨S2x100, .f32⟩
  | .hbm, ⟨29, _⟩ => ⟨S2x100, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.CallIdeal.lean ====
/-
  The SparseCore call of the program, at any float instance: what each of the vector subcores does with the rows it is
  handed, and how the call's arrays are dealt to the two SparseCores and their tiles and come back.

  Two SparseCores run the call, SparseCore `c` over row `c`. Of its sixteen tiles the first eight each rescore sixteen
  entries of the row: the tile copies its scores, its query numbers and the row's mask ratios into its own memory, looks
  the ratios up at the query numbers, multiplies, and copies the sixteen products out. The other eight do nothing. The
  contents of the three arrays read are parameters throughout (`Arrays`), so that the same lemmas serve whatever filled
  them.
-/
module

public import proofs.«01_k».proof.Defs
public import Idealize.ShloMosaic.Lib.ShareLeaves
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.CallIdeal
public import proofs.«01_k».proof.Proof.Gen.CallIdeal.Skeleton

@[expose] public section

noncomputable section

namespace Cert.Proof.CallIdeal

open Cert.CallIdeal Cert.CallIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and belong to no kernel. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The certificate's ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays the call reads and the one it writes -/

abbrev vLoc (d : Dev nD) : Loc nD τ sig := (SparseCore.T d).loc main_arg0
abbrev qLoc (d : Dev nD) : Loc nD τ sig := (SparseCore.T d).loc main_arg1
abbrev rLoc (d : Dev nD) : Loc nD τ sig := (SparseCore.T d).loc main_arg2
abbrev oLoc (d : Dev nD) : Loc nD τ sig := (SparseCore.T d).loc main_v0

local notation "vV" => (Memref.whole Cert.CallIdeal.main_arg0_scv : Memref Cert.CallIdeal.sig Kind.scVector Space.hbm Cert.CallIdeal.S2x128 EltTy.f32)
local notation "qV" => (Memref.whole Cert.CallIdeal.main_arg1_scv : Memref Cert.CallIdeal.sig Kind.scVector Space.hbm Cert.CallIdeal.S2x128 EltTy.i32)
local notation "rV" => (Memref.whole Cert.CallIdeal.main_arg2_scv : Memref Cert.CallIdeal.sig Kind.scVector Space.hbm Cert.CallIdeal.S2x1x160 EltTy.f32)
local notation "oV" => (Memref.whole Cert.CallIdeal.main_v0_scv : Memref Cert.CallIdeal.sig Kind.scVector Space.hbm Cert.CallIdeal.S2x128 EltTy.f32)
local notation "tvV" => (Memref.whole Cert.CallIdeal.cc0_scratch0 : Memref Cert.CallIdeal.sig Kind.scVector Space.vmem Cert.CallIdeal.S16 EltTy.f32)
local notation "tqV" => (Memref.whole Cert.CallIdeal.cc0_scratch1 : Memref Cert.CallIdeal.sig Kind.scVector Space.vmem Cert.CallIdeal.S16 EltTy.i32)
local notation "trV" => (Memref.whole Cert.CallIdeal.cc0_scratch2 : Memref Cert.CallIdeal.sig Kind.scVector Space.vmem Cert.CallIdeal.S160 EltTy.f32)
local notation "toV" => (Memref.whole Cert.CallIdeal.cc0_scratch3 : Memref Cert.CallIdeal.sig Kind.scVector Space.vmem Cert.CallIdeal.S16 EltTy.f32)

/-- What the call's arrays hold when it starts: scores, query numbers, mask ratios, and whatever the result array holds. -/
structure Arrays (F : FTy → Type) where
  v : (d : Dev nD) → FVec F S2x128 .f32
  q : (d : Dev nD) → IVec S2x128 32
  r : (d : Dev nD) → FVec F S2x1x160 .f32
  o : (d : Dev nD) → FVec F S2x128 .f32

/-- The ratio that query number `w` names in row `b`. -/
def ratioIx (b : Fin 2) (w : BitVec 32) : S2x1x160.Idx := fun
  | ⟨0, _⟩ => b
  | ⟨1, _⟩ => (0 : Fin 1)
  | ⟨2, _⟩ => (⟨w.toNat % 160, Nat.mod_lt _ (by decide)⟩ : Fin 160)

/-- What the proof asks of the query numbers: each names one of the row's 160 ratios. -/
def InRange (A : Arrays F) : Prop := ∀ (d : Dev nD) (j : S2x128.Idx), (A.q d j).toNat < 160

/-- The rescored array: every score times the ratio its query number names. -/
def rescored [FloatOps F] (A : Arrays F) (d : Dev nD) : FVec F S2x128 .f32 := fun j => FloatOps.mulf (A.v d j) (A.r d (ratioIx (j 0) (A.q d j)))

/-- The entries tile `i` of SparseCore `c` rescores (none from tile 8 on), and those of the whole SparseCore. -/
def oTile (c i : ℕ) : Finset S2x128.Idx := Finset.univ.filter fun j => (j 0).val = c ∧ (j 1).val / 16 = i
def oCore (c : ℕ) : Finset S2x128.Idx := Finset.univ.filter fun j => (j 0).val = c

/-- The read shares: half of an array for each SparseCore, a sixteenth of that for each of its tiles. -/
abbrev shCore (c : Fin 2) : PosShare TreeShare := leaf 1 fullShare c
abbrev shTile (c : Fin 2) (i : Fin 16) : PosShare TreeShare := leaf 4 (shCore c) i

/-- The three arrays read, at a share. -/
abbrev reads (A : Arrays F) (d : Dev nD) (s : PosShare TreeShare) : sProp 𝕄 :=
  iprop((vLoc d ↦{s} A.v d) ∗ (qLoc d ↦{s} A.q d) ∗ rLoc d ↦{s} A.r d)

/-- What a tile holds: its share of the arrays read, and its entries of the result, at contents `f`. -/
abbrev tileHolds (A : Arrays F) (d : Dev nD) (c : Fin 2) (i : Fin 16) (f : Buf (Elt F) (oLoc d)) : sProp 𝕄 :=
  iprop(reads A d (shTile c i) ∗ oLoc d ↦[oTile c.val i.val]{fullShare} f)

/-- What a SparseCore holds: its share of the arrays read, and its row of the result, at contents `f`. -/
abbrev coreHolds (A : Arrays F) (d : Dev nD) (c : Fin 2) (f : Buf (Elt F) (oLoc d)) : sProp 𝕄 :=
  iprop(reads A d (shCore c) ∗ oLoc d ↦[oCore c.val]{fullShare} f)

variable [FloatOps F]

/-- What the handshakes of the call carry: each SparseCore, and each tile, takes its part with the result array as the
    call found it and brings it back rescored. -/
def P (A : Arrays F) : (K (F := F)).Pay (nD := nD) (Val := Elt F) (Name := ℕ) (U := UU) where
  st := fun q d c => match q with | 0 => coreHolds A d (Fin.cast nCore_zero c) (A.o d)
  dn := fun q d c => match q with | 0 => coreHolds A d (Fin.cast nCore_zero c) (rescored A d)
  go := fun q d c i => match q with | 0 => tileHolds A d (Fin.cast nCore_zero c) (Fin.cast nSub_zero i) (A.o d)
  td := fun q d c i => match q with | 0 => tileHolds A d (Fin.cast nCore_zero c) (Fin.cast nSub_zero i) (rescored A d)
  x := fun _ _ => iprop(emp)

instance P_storable (A : Arrays F) : (P A).IsStorable where
  st q d c := match q with
    | 0 => (inferInstance : BI.Storable (upEmb : UEmb _ 𝕄) (coreHolds A d (Fin.cast nCore_zero c) (A.o d)))
  dn q d c := match q with
    | 0 => (inferInstance : BI.Storable (upEmb : UEmb _ 𝕄) (coreHolds A d (Fin.cast nCore_zero c) (rescored A d)))
  go q d c i := match q with
    | 0 => (inferInstance : BI.Storable (upEmb : UEmb _ 𝕄) (tileHolds A d (Fin.cast nCore_zero c) (Fin.cast nSub_zero i) (A.o d)))
  td q d c i := match q with
    | 0 => (inferInstance : BI.Storable (upEmb : UEmb _ 𝕄) (tileHolds A d (Fin.cast nCore_zero c) (Fin.cast nSub_zero i) (rescored A d)))

/-! ## One tile -/

section Tile

variable (A : Arrays F) (d : Dev nD) (L : grid0.Coords)

abbrev cV (L : grid0.Coords) : Fin τ.nSC := (L 0).castLE hcore0
abbrev jV (L : grid0.Coords) : Fin τ.nSub := (L 1).castLE hsub0
abbrev cL (L : grid0.Coords) : Fin 2 := Fin.cast rfl (L 0)
abbrev jL (L : grid0.Coords) : Fin 16 := Fin.cast rfl (L 1)

/-- The first eight tiles of a SparseCore work. -/
theorem works_iff : ∀ L : grid0.Coords, k0_cond1 L = 1#1 ↔ (L 1).val < 8 := by decide +kernel

variable (h : k0_cond1 L = 1#1)

/-- The tile's sixteen scores, query numbers and results, and its row of the ratios, as the tile addresses them. -/
abbrev vK : Memref sig .scVector .hbm S16 .f32 := ((vV).slice (Rect.unit (s := S2x128) (k0_off1 L) S1x16.size (k0_off1_inb L h)) (fun _ => rfl)).squeeze S16 squeezes_S1x16_S16
abbrev qK : Memref sig .scVector .hbm S16 .i32 := ((qV).slice (Rect.unit (s := S2x128) (k0_off1 L) S1x16.size (k0_off1_inb L h)) (fun _ => rfl)).squeeze S16 squeezes_S1x16_S16
abbrev rK : Memref sig .scVector .hbm S160 .f32 := ((rV).slice (Rect.unit (s := S2x1x160) (k0_off2 L) S1x1x160.size (k0_off2_inb L h)) (fun _ => rfl)).squeeze S160 squeezes_S1x1x160_S160
abbrev oK : Memref sig .scVector .hbm S16 .f32 := ((oV).slice (Rect.unit (s := S2x128) (k0_off3 L) S1x16.size (k0_off3_inb L h)) (fun _ => rfl)).squeeze S16 squeezes_S1x16_S16

/-- Entry `x` of the tile's sixteen, in the two-row arrays, and ratio `x` of the tile's row. -/
def at16 (x : S16.Idx) : S2x128.Idx := fun
  | ⟨0, _⟩ => cL L
  | ⟨1, _⟩ => (⟨(16 * (L 1).val + (x 0).val) % 128, Nat.mod_lt _ (by decide)⟩ : Fin 128)
def at160 (x : S160.Idx) : S2x1x160.Idx := fun
  | ⟨0, _⟩ => cL L
  | ⟨1, _⟩ => (0 : Fin 1)
  | ⟨2, _⟩ => (x 0 : Fin 160)

theorem unsqueeze16 : ∀ x : S16.Idx, (Shape.reshapeEquiv squeezes_S1x16_S16.numel_eq x 0).val = 0 ∧ (Shape.reshapeEquiv squeezes_S1x16_S16.numel_eq x 1).val = (x 0).val := by
  decide +kernel
theorem unsqueeze160 : ∀ x : S160.Idx, (Shape.reshapeEquiv squeezes_S1x1x160_S160.numel_eq x 0).val = 0 ∧ (Shape.reshapeEquiv squeezes_S1x1x160_S160.numel_eq x 1).val = 0
    ∧ (Shape.reshapeEquiv squeezes_S1x1x160_S160.numel_eq x 2).val = (x 0).val := by
  decide +kernel

/-- Lane `k` of sixteen, as an index. -/
def lane16 (k : Fin 16) : S16.Idx := fun | ⟨0, _⟩ => k

theorem at16_val (hL : (L 1).val < 8) (x : S16.Idx) : (at16 L x 1).val = 16 * (L 1).val + (x 0).val := by
  show (16 * (L 1).val + (x 0).val) % 128 = _
  have := (x 0).isLt
  have : (x 0).val < 16 := this
  omega

theorem emb_off1 (x : S16.Idx) :
    (Rect.unit (s := S2x128) (k0_off1 L) S1x16.size (k0_off1_inb L h)).emb (Shape.reshapeEquiv squeezes_S1x16_S16.numel_eq x) = at16 L x := by
  have hL := (works_iff L).mp h
  funext a; apply Fin.ext
  refine (ValueKit.rect_emb_unit_val _ _ _ _ a).trans ((congrArg (· + _) (congrFun (k0_off1_eq L) a)).trans ?_)
  match a with
  | ⟨0, _⟩ => exact (congrArg ((L 0).val + ·) (unsqueeze16 x).1)
  | ⟨1, _⟩ => exact (congrArg (16 * (L 1).val + ·) (unsqueeze16 x).2).trans (at16_val L hL x).symm

theorem emb_off3 (x : S16.Idx) :
    (Rect.unit (s := S2x128) (k0_off3 L) S1x16.size (k0_off3_inb L h)).emb (Shape.reshapeEquiv squeezes_S1x16_S16.numel_eq x) = at16 L x := by
  have hL := (works_iff L).mp h
  funext a; apply Fin.ext
  refine (ValueKit.rect_emb_unit_val _ _ _ _ a).trans ((congrArg (· + _) (congrFun (k0_off3_eq L) a)).trans ?_)
  match a with
  | ⟨0, _⟩ => exact (congrArg ((L 0).val + ·) (unsqueeze16 x).1)
  | ⟨1, _⟩ => exact (congrArg (16 * (L 1).val + ·) (unsqueeze16 x).2).trans (at16_val L hL x).symm

theorem emb_off2 (x : S160.Idx) :
    (Rect.unit (s := S2x1x160) (k0_off2 L) S1x1x160.size (k0_off2_inb L h)).emb (Shape.reshapeEquiv squeezes_S1x1x160_S160.numel_eq x) = at160 L x := by
  funext a; apply Fin.ext
  refine (ValueKit.rect_emb_unit_val _ _ _ _ a).trans ((congrArg (· + _) (congrFun (k0_off2_eq L) a)).trans ?_)
  match a with
  | ⟨0, _⟩ => exact (congrArg ((L 0).val + ·) (unsqueeze160 x).1)
  | ⟨1, _⟩ => exact (congrArg (0 + ·) (unsqueeze160 x).2.1)
  | ⟨2, _⟩ => exact (congrArg (0 + ·) (unsqueeze160 x).2.2).trans (Nat.zero_add _)

/-- The tile's addresses: entry `x` of its scores, query numbers and results is entry `at16 L x` of the array. -/
theorem read_vK (f : FVec F S2x128 .f32) : (vK L h).view.read (Elt F) f = fun x => f (at16 L x) := by
  funext x
  exact congrArg f (emb_off1 L h x)
theorem read_qK (f : IVec S2x128 32) : (qK L h).view.read (Elt F) f = fun x => f (at16 L x) := by
  funext x
  exact congrArg f (emb_off1 L h x)
theorem read_rK (f : FVec F S2x1x160 .f32) : (rK L h).view.read (Elt F) f = fun x => f (at160 L x) := by
  funext x
  exact congrArg f (emb_off2 L h x)
theorem emb_oK (x : S16.Idx) : (oK L h).view.emb x = at16 L x := emb_off3 L h x

/-- The tile's part of the result array is `oTile`. -/
theorem set_oK : (oK L h).view.set = oTile (cL L).val (jL L).val := by
  have hL := (works_iff L).mp h
  ext j
  constructor
  · intro hj
    obtain ⟨x, rfl⟩ := View.exists_emb_of_mem_set _ hj
    rw [emb_oK]
    refine Finset.mem_filter.mpr ⟨Finset.mem_univ _, rfl, ?_⟩
    rw [at16_val L hL]
    have : (x 0).val < 16 := (x 0).isLt
    show _ = (L 1).val
    omega
  · intro hj
    obtain ⟨-, h0, h1⟩ := Finset.mem_filter.mp hj
    have h1' : (j 1).val / 16 = (L 1).val := h1
    have e : (oK L h).view.emb (lane16 ⟨(j 1).val % 16, Nat.mod_lt _ (by decide)⟩) = j := by
      rw [emb_oK]
      funext a; apply Fin.ext
      match a with
      | ⟨0, _⟩ => exact h0.symm
      | ⟨1, _⟩ =>
        refine (at16_val L hL _).trans ?_
        show 16 * (L 1).val + (j 1).val % 16 = (j 1).val
        omega
    exact e ▸ View.emb_mem_set _ _

/-! The call's arrays and the tile's own memory, as the tile addresses them whole. -/

theorem pts_oK (f : Buf (Elt F) (oLoc d)) :
    ((oK L h).view.loc (V d (cV L) (jV L)) ↦[(oK L h).view.set]{fullShare} f : sProp 𝕄) = oLoc d ↦[oTile (cL L).val (jL L).val]{fullShare} f := by
  rw [set_oK]
theorem pts_vV (s : PosShare TreeShare) (f : Buf (Elt F) (vLoc d)) :
    ((vV).view.loc (V d (cV L) (jV L)) ↦{s} f : sProp 𝕄) = vLoc d ↦{s} f := rfl
theorem pts_qV (s : PosShare TreeShare) (f : Buf (Elt F) (qLoc d)) :
    ((qV).view.loc (V d (cV L) (jV L)) ↦{s} f : sProp 𝕄) = qLoc d ↦{s} f := rfl
theorem pts_rV (s : PosShare TreeShare) (f : Buf (Elt F) (rLoc d)) :
    ((rV).view.loc (V d (cV L) (jV L)) ↦{s} f : sProp 𝕄) = rLoc d ↦{s} f := rfl
theorem pts_tvV (f : Buf (Elt F) ((V d (cV L) (jV L)).loc cc0_scratch0)) :
    ((tvV).view.loc (V d (cV L) (jV L)) ↦{fullShare} f : sProp 𝕄) = (V d (cV L) (jV L)).loc cc0_scratch0 ↦{fullShare} f := rfl
theorem pts_tqV (f : Buf (Elt F) ((V d (cV L) (jV L)).loc cc0_scratch1)) :
    ((tqV).view.loc (V d (cV L) (jV L)) ↦{fullShare} f : sProp 𝕄) = (V d (cV L) (jV L)).loc cc0_scratch1 ↦{fullShare} f := rfl
theorem pts_trV (f : Buf (Elt F) ((V d (cV L) (jV L)).loc cc0_scratch2)) :
    ((trV).view.loc (V d (cV L) (jV L)) ↦{fullShare} f : sProp 𝕄) = (V d (cV L) (jV L)).loc cc0_scratch2 ↦{fullShare} f := rfl
theorem pts_toV (f : Buf (Elt F) ((V d (cV L) (jV L)).loc cc0_scratch3)) :
    ((toV).view.loc (V d (cV L) (jV L)) ↦{fullShare} f : sProp 𝕄) = (V d (cV L) (jV L)).loc cc0_scratch3 ↦{fullShare} f := rfl

abbrev sem0 (d : Dev nD) (c : Fin τ.nSC) (i : Fin τ.nSub) : GSem nD τ sig := (V d c i, .dma cc0_scoped0.sem)
abbrev sem1 (d : Dev nD) (c : Fin τ.nSC) (i : Fin τ.nSub) : GSem nD τ sig := (V d c i, .dma cc0_scoped1.sem)
abbrev sem2 (d : Dev nD) (c : Fin τ.nSC) (i : Fin τ.nSub) : GSem nD τ sig := (V d c i, .dma cc0_scoped2.sem)
abbrev sem3 (d : Dev nD) (c : Fin τ.nSC) (i : Fin τ.nSub) : GSem nD τ sig := (V d c i, .dma cc0_scoped3.sem)

/-- The tile's other semaphores and buffers, which the call does not touch. -/
abbrev otherSems (d : Dev nD) (c : Fin τ.nSC) (i : Fin τ.nSub) : Finset (GSem nD τ sig) :=
  ((((ownCells (V d c i)).erase (sem0 d c i)).erase (sem1 d c i)).erase (sem2 d c i)).erase (sem3 d c i)
abbrev otherBufs (c : Fin τ.nSC) (i : Fin τ.nSub) : Finset (DevRef τ sig) :=
  ((((ownRefs (τ := τ) (.scVector c i)).erase ((Proc.scVector c i).devRef cc0_scratch0)).erase
      ((Proc.scVector c i).devRef cc0_scratch1)).erase ((Proc.scVector c i).devRef cc0_scratch2)).erase ((Proc.scVector c i).devRef cc0_scratch3)

theorem own_sem (c : Fin τ.nSC) (i : Fin τ.nSub) (s : DmaSem sig) : ((V d c i, .dma s) : GSem nD τ sig) ∈ ownCells (V d c i) :=
  mem_ownCells.mpr ⟨rfl, by show (SemLoc.dma s : SemLoc sig).isScoped .scVector = true; revert s; decide⟩
theorem sem_ne (c : Fin τ.nSC) (i : Fin τ.nSub) {s s' : DmaSem sig} (h : s ≠ s') : ((V d c i, .dma s) : GSem nD τ sig) ≠ (V d c i, .dma s') :=
  fun e => h (SemLoc.dma.inj (congrArg Prod.snd e))
theorem own_buf (c : Fin τ.nSC) (i : Fin τ.nSub) (b : Ref sig .scVector) (h : ((Proc.scVector c i).devRef b : DevRef τ sig).owner = .proc (.scVector c i)) :
    (Proc.scVector c i).devRef b ∈ ownRefs (τ := τ) (sig := sig) (.scVector c i) := SparseCore.Cfg.mem_ownRefs_of_owner h
theorem buf_ne (c : Fin τ.nSC) (i : Fin τ.nSub) {b b' : Ref sig .scVector} (h : b ≠ b') :
    ((Proc.scVector c i).devRef b : DevRef τ sig) ≠ (Proc.scVector c i).devRef b' := fun e => h (Proc.devRef_injective _ e)

/-- The four semaphores of the tile's copies are among its own. -/
theorem ownSems0_V (c : Fin τ.nSC) (i : Fin τ.nSub) :
    (ownSems0 (V d c i) : sProp 𝕄)
      = iprop(semVal (sem0 d c i) 0 ∗ semVal (sem1 d c i) 0 ∗ semVal (sem2 d c i) 0 ∗ semVal (sem3 d c i) 0
          ∗ bigSep (otherSems d c i) fun g => semVal g 0) := by
  unfold SparseCore.Cfg.ownSems0
  rw [SparseCore.bigSep_erase' (own_sem d c i cc0_scoped0.sem),
    SparseCore.bigSep_erase' (i := sem1 d c i) (Finset.mem_erase.mpr ⟨sem_ne d c i (by decide), own_sem d c i _⟩),
    SparseCore.bigSep_erase' (i := sem2 d c i) (Finset.mem_erase.mpr ⟨sem_ne d c i (by decide), Finset.mem_erase.mpr ⟨sem_ne d c i (by decide), own_sem d c i _⟩⟩),
    SparseCore.bigSep_erase' (i := sem3 d c i) (Finset.mem_erase.mpr ⟨sem_ne d c i (by decide), Finset.mem_erase.mpr ⟨sem_ne d c i (by decide),
      Finset.mem_erase.mpr ⟨sem_ne d c i (by decide), own_sem d c i _⟩⟩⟩)]

/-- The four scratch buffers are among the tile's own. -/
theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (otherBufs c i) fun b => iprop(∃ f, ((d, b) : Loc nD τ sig) ↦{fullShare} f)) := by
  unfold SparseCore.Cfg.ownBufs
  refine (SparseCore.bigSep_erase' (own_buf c i cc0_scratch0 rfl)).trans ?_
  rw [SparseCore.bigSep_erase' (i := (Proc.scVector c i).devRef cc0_scratch1) (Finset.mem_erase.mpr ⟨buf_ne c i (by decide), own_buf c i _ rfl⟩),
    SparseCore.bigSep_erase' (i := (Proc.scVector c i).devRef cc0_scratch2) (Finset.mem_erase.mpr ⟨buf_ne c i (by decide), Finset.mem_erase.mpr ⟨buf_ne c i (by decide), own_buf c i _ rfl⟩⟩),
    SparseCore.bigSep_erase' (i := (Proc.scVector c i).devRef cc0_scratch3) (Finset.mem_erase.mpr ⟨buf_ne c i (by decide), Finset.mem_erase.mpr ⟨buf_ne c i (by decide),
      Finset.mem_erase.mpr ⟨buf_ne c i (by decide), own_buf c i _ rfl⟩⟩⟩)]

/-- A load of all sixteen lanes of a scratch buffer reads its contents. -/
theorem read_tv (f : FVec F S16 .f32) : View.readAt (Elt F) (tvV).view (Rect.unit (s := S16) ![0] ![16] inb_S16_S16_0).toLoadRect f = f := by
  funext x
  exact congrArg f (funext fun a => Fin.ext (by match a with | ⟨0, _⟩ => exact (Nat.zero_add _).trans (Nat.one_mul _)))
theorem read_tq (f : IVec S16 32) : View.readAt (Elt F) (tqV).view (Rect.unit (s := S16) ![0] ![16] inb_S16_S16_0).toLoadRect f = f := by
  funext x
  exact congrArg f (funext fun a => Fin.ext (by match a with | ⟨0, _⟩ => exact (Nat.zero_add _).trans (Nat.one_mul _)))

theorem read_tr (f : FVec F S160 .f32) : View.read (Elt F) ((trV).access (.whole S160)) f = f := by
  funext x
  exact congrArg f (Rect.emb_whole_apply S160 x)

/-- The check the tile makes of the query numbers it copied passes when they are in range. -/
theorem chk_of_inRange (hA : InRange A) (w : IVec S16 32) (hw : w = fun x => A.q d (at16 L x)) : k0_chk1 L w := by
  subst hw
  intro _ a x
  match a with
  | ⟨0, _⟩ => exact hA d _

/-- Looking the row's ratios up at the query numbers copied, lane by lane. -/
theorem lookup_eq (w : IVec S16 32) (hw : w = fun x => A.q d (at16 L x)) (g : FVec F S160 .f32) (hg : g = fun x => A.r d (at160 L x))
    (hlt : ∀ a x, ((![w] : Fin 1 → IVec S16 32) a x).toNat < S160.size a) :
    (loadIdx (F := F) (e := .f32) g ![w] hlt : FVec F S16 .f32) = fun x => A.r d (ratioIx (cL L) (A.q d (at16 L x))) := by
  subst hw hg
  funext x
  refine congrArg (A.r d) (funext fun a => Fin.ext ?_)
  match a with
  | ⟨0, _⟩ => rfl
  | ⟨1, _⟩ => rfl
  | ⟨2, _⟩ =>
    have h' : (A.q d (at16 L x)).toNat < 160 := hlt 0 x
    exact (Nat.mod_eq_of_lt h').symm

/-- What the tile copies out is its part of the rescored array. -/
theorem write_oK (fo : Buf (Elt F) (oLoc d)) (w : FVec F S16 .f32) (hw : w = fun x => rescored A d (at16 L x)) :
    ∀ j ∈ (oK L h).view.set, (oK L h).view.writes (Elt F) fo [⟨Rect.whole S16, w⟩] j = rescored A d j := by
  subst hw
  intro j hj
  obtain ⟨x, rfl⟩ := View.exists_emb_of_mem_set _ hj
  have e : ((oK L h).view.slice (Rect.whole S16)).emb x = (oK L h).view.emb x := congrArg (oK L h).view.emb (Rect.emb_whole_apply S16 x)
  rw [View.writes_singleton, ← e, View.write_emb_of_mem _ _ (Finset.mem_univ x), e]
  exact congrArg (rescored A d) (emb_oK L h x).symm

/-- What the tile stored in its scratch, read back. -/
theorem read_to (fo : FVec F S16 .f32) (w : FVec F S16 .f32) :
    View.read (Elt F) (toV).view ((toV).view.writes (Elt F) fo [⟨Rect.unit (s := S16) ![0] ![16] inb_S16_S16_0, w⟩]) = w := by
  funext x
  exact View.read_writes_cons_hit (Val := Elt F) (toV).view fo (Rect.unit (s := S16) ![0] ![16] inb_S16_S16_0) w [] x x (funext fun a => Fin.ext (by match a with | ⟨0, _⟩ => exact (Nat.zero_add _).trans (Nat.one_mul _)))

set_option maxHeartbeats 4000000 in
/-- A working tile, from its part of the call's arrays: it brings them back with its entries rescored. -/
theorem tile_works (hF : (K (F := F)).Facts) (hA : InRange A) (O : CellTallies nD τ sig (HIx 1)) (W : Waits sig (HIx 1)) (hO : ∀ g, O g none = 0)
    (h : k0_cond1 L = 1#1) :
    iprop(levAts (K (F := F)).L (K (F := F)).lev ∗ emp
        ∗ tileHolds A d (cL L) (jL L) (A.o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L vV (Memref.isWhole_whole _) qV (Memref.isWhole_whole _) rV (Memref.isWhole_whole _) oV (Memref.isWhole_whole _)
            tvV (Memref.isWhole_whole _) tqV (Memref.isWhole_whole _) trV (Memref.isWhole_whole _) toV (Memref.isWhole_whole _)
            cc0_scoped0 cc0_scoped1 cc0_scoped2 cc0_scoped3)
          fun _ => iprop(tileHolds A d (cL L) (jL L) (rescored A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  simp only [h, ↓reduceDIte]
  iintro ⟨#Hlv, -, ⟨⟨Hv, Hq, Hr⟩, Ho⟩, ⟨⟨%fv, Htv⟩, ⟨%fq, Htq⟩, ⟨%fr, Htr⟩, ⟨%fo, Hto⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oK (F := F) d L h _).symm) $$ Ho
  ihave Hv' := (Entails.of_eq (pts_vV (F := F) d L _ _).symm) $$ Hv
  ihave Hq' := (Entails.of_eq (pts_qV (F := F) d L _ _).symm) $$ Hq
  ihave Hr' := (Entails.of_eq (pts_rV (F := F) d L _ _).symm) $$ Hr
  ihave Htv' := (Entails.of_eq (pts_tvV (F := F) d L _).symm) $$ Htv
  ihave Htq' := (Entails.of_eq (pts_tqV (F := F) d L _).symm) $$ Htq
  ihave Htr' := (Entails.of_eq (pts_trV (F := F) d L _).symm) $$ Htr
  ihave Hto' := (Entails.of_eq (pts_toV (F := F) d L _).symm) $$ Hto
  sl_exec
  have hw : tile_works.sl.v4 A d L h fq = fun x => A.q d (at16 L x) := by
    unfold tile_works.sl.v4 tile_works.sl.dma0_1
    exact (congrArg _ (View.write_whole_univ _ _ _)).trans ((read_tq _).trans (read_qK L h _))
  rw [wp_assume_of _ _ _ _ (chk_of_inRange A d L hA _ hw)]
  ihave Htr2 := (Entails.of_eq (show ((trV).view.loc (V d (cV L) (jV L)) ↦{fullShare} _ : sProp 𝕄)
      = ((trV).access (.whole S160)).loc (V d (cV L) (jV L)) ↦{fullShare} _ from rfl)) $$ Htr'
  iapply (SparseCore.wp_vectorLoadIdx 𝒱₀ (V d (cV L) (jV L)) none Set.univ (base := (trV : Memref sig .scVector .vmem S160 .f32)) (S := Finset.univ) (q := fullShare) (Finset.subset_univ _)) $$ Htr2; iintro Htr2
  sl_exec
  have hp : tile_works.sl.dma3 A d L hA h fv fq fr fo hw = fun x => rescored A d (at16 L x) := by
    unfold tile_works.sl.dma3 tile_works.sl.Hto'_1
    have hr : View.read (Elt F) ((trV).access (.whole S160)) (View.write (Elt F) (trV).view fr (tile_works.sl.dma0_2 A d L h) Finset.univ)
        = fun x => A.r d (at160 L x) := by
      unfold tile_works.sl.dma0_2
      exact (congrArg _ (View.write_whole_univ _ _ _)).trans ((read_tr _).trans (read_rK L h _))
    have hv : tile_works.sl.v6 A d L h fv = fun x => A.v d (at16 L x) := by
      unfold tile_works.sl.v6 tile_works.sl.dma0
      exact (congrArg _ (View.write_whole_univ _ _ _)).trans ((read_tv _).trans (read_vK L h _))
    refine (read_to _ _).trans ?_
    rw [k0_pay1, hv]
    refine (congrArg (mulf _) (lookup_eq A d L _ hw _ hr _)).trans ?_
    rfl
  sl_step
  isplitl [Hv' Hq' Hr' Ho']
  · isplitl [Hv' Hq' Hr']
    · isplitl [Hv']; · iexact Hv'
      isplitl [Hq']; · iexact Hq'
      iexact Hr'
    · iapply (Entails.of_eq ((pointsTo_congr (write_oK A d L h (A.o d) _ hp)).trans (pts_oK (F := F) d L h _))); iexact Ho'
  isplitl [Htv' Htq' Htr2 Hto' Hbufs]
  · isplitl [Htv']; · iexists _; iexact Htv'
    isplitl [Htq']; · iexists _; iexact Htq'
    isplitl [Htr2]; · iexists _; iexact Htr2
    isplitl [Hto']; · iexists _; iexact Hto'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- A tile from the ninth on has no entries. -/
theorem oTile_idle (h : ¬k0_cond1 L = 1#1) : oTile (cL L).val (jL L).val = ∅ := by
  have hL : ¬(L 1).val < 8 := fun e => h ((works_iff L).mpr e)
  refine Finset.filter_eq_empty_iff.mpr ?_
  rintro j - ⟨-, e⟩
  have : (j 1).val < 128 := (j 1).isLt
  have e' : (j 1).val / 16 = (L 1).val := e
  omega

/-- An idle tile brings its part back as it is: it has no entries to rescore. -/
theorem tile_idle (O : CellTallies nD τ sig (HIx 1)) (W : Waits sig (HIx 1)) (h : ¬k0_cond1 L = 1#1) :
    iprop(levAts (K (F := F)).L (K (F := F)).lev ∗ emp
        ∗ tileHolds A d (cL L) (jL L) (A.o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L vV (Memref.isWhole_whole _) qV (Memref.isWhole_whole _) rV (Memref.isWhole_whole _) oV (Memref.isWhole_whole _)
            tvV (Memref.isWhole_whole _) tqV (Memref.isWhole_whole _) trV (Memref.isWhole_whole _) toV (Memref.isWhole_whole _)
            cc0_scoped0 cc0_scoped1 cc0_scoped2 cc0_scoped3)
          fun _ => iprop(tileHolds A d (cL L) (jL L) (rescored A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  simp only [h, ↓reduceDIte]
  iintro ⟨-, -, ⟨Hr, Ho⟩, Hb, Hs, HO⟩
  sl_exec
  sl_step
  isplitl [Hr Ho]
  · isplitl [Hr]; · iexact Hr
    iapply (Entails.of_eq (pointsTo_congr (f := A.o d) (g := rescored A d) fun j hj => by rw [oTile_idle L h] at hj; exact absurd hj (Finset.notMem_empty j))); iexact Ho
  isplitl [Hb]; · iexact Hb
  isplitl [Hs]; · iexact Hs
  iexists W; isplitr
  swap; · iexact HO
  ipureintro; exact fun p hp => .inl hp

/-- A tile of either kind, from its part of the call's arrays: it brings them back with its entries rescored. -/
theorem tile_body (hF : (K (F := F)).Facts) (hA : InRange A) (O : CellTallies nD τ sig (HIx 1)) (W : Waits sig (HIx 1)) (hO : ∀ g, O g none = 0) :
    iprop(levAts (K (F := F)).L (K (F := F)).lev ∗ emp
        ∗ tileHolds A d (cL L) (jL L) (A.o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L vV (Memref.isWhole_whole _) qV (Memref.isWhole_whole _) rV (Memref.isWhole_whole _) oV (Memref.isWhole_whole _)
            tvV (Memref.isWhole_whole _) tqV (Memref.isWhole_whole _) trV (Memref.isWhole_whole _) toV (Memref.isWhole_whole _)
            cc0_scoped0 cc0_scoped1 cc0_scoped2 cc0_scoped3)
          fun _ => iprop(tileHolds A d (cL L) (jL L) (rescored A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k0_cond1 L = 1#1
  · exact tile_works A d L hF hA O W hO h
  · exact tile_idle A d L O W h

/-! ## The tiles' obligation to the launch -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          vV (Memref.isWhole_whole _) qV (Memref.isWhole_whole _) rV (Memref.isWhole_whole _) oV (Memref.isWhole_whole _)
          tvV (Memref.isWhole_whole _) tqV (Memref.isWhole_whole _) trV (Memref.isWhole_whole _) toV (Memref.isWhole_whole _)
          cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its part. -/
theorem tileObl (hF : (K (F := F)).Facts) (hA : InRange A) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hA O W hO).trans (wp_mono frame _ _ fun _ => obl_post)

end Tile

/-! ## The arrays are dealt out and come back -/

section Deal

variable (A : Arrays F) (d : Dev nD)

theorem reads_shares (s : PosShare TreeShare) (n : ℕ) :
    (reads A d s : sProp 𝕄) = bigSep Finset.univ fun i : Fin (2 ^ n) => reads A d (leaf n s i) := by
  unfold reads
  rw [bigSep_sep', bigSep_sep', ← pointsTo_leaves, ← pointsTo_leaves, ← pointsTo_leaves]

theorem oCore_tiles (c : Fin 2) (f : Buf (Elt F) (oLoc d)) :
    (oLoc d ↦[oCore c.val]{fullShare} f : sProp 𝕄) = bigSep Finset.univ fun i : Fin 16 => oLoc d ↦[oTile c.val i.val]{fullShare} f := by
  rw [← pointsTo_biUnion Finset.univ (ℓ := oLoc d) (fun i : Fin 16 => oTile c.val i.val)]
  · congr 1
    ext j
    have hj : (j 1).val < 128 := (j 1).isLt
    simp only [oCore, oTile, Finset.mem_filter, Finset.mem_univ, true_and, Finset.mem_biUnion]
    exact ⟨fun e => ⟨⟨(j 1).val / 16, by omega⟩, e, rfl⟩, fun ⟨_, e, _⟩ => e⟩
  · intro i _ i' _ hne
    refine Finset.disjoint_left.mpr fun j hj hj' => hne (Fin.ext ?_)
    exact (Finset.mem_filter.mp hj).2.2.symm.trans (Finset.mem_filter.mp hj').2.2

theorem oCore_cover : (Finset.univ.biUnion fun c : Fin 2 => oCore c.val) = Finset.univ :=
  Finset.eq_univ_of_forall fun j => Finset.mem_biUnion.mpr ⟨(j 0 : Fin 2), Finset.mem_univ _, Finset.mem_filter.mpr ⟨Finset.mem_univ _, rfl⟩⟩

theorem o_cores (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val), oCore_cover]
  intro i _ i' _ hne
  refine Finset.disjoint_left.mpr fun j hj hj' => hne (Fin.ext ?_)
  exact (Finset.mem_filter.mp hj).2.symm.trans (Finset.mem_filter.mp hj').2

/-- What a SparseCore holds is what its sixteen tiles hold. -/
theorem core_tiles (c : Fin 2) (f : Buf (Elt F) (oLoc d)) :
    (coreHolds A d c f : sProp 𝕄) = bigSep Finset.univ fun i : Fin 16 => tileHolds A d c i f := by
  unfold coreHolds tileHolds
  rw [bigSep_sep', ← oCore_tiles]
  exact congrArg (fun R : sProp 𝕄 => iprop(R ∗ oLoc d ↦[oCore c.val]{fullShare} f)) (reads_shares A d (shCore c) 4)

/-- The call's arrays are what the two SparseCores hold. -/
theorem arrays_cores (f : Buf (Elt F) (oLoc d)) :
    (iprop(reads A d fullShare ∗ oLoc d ↦{fullShare} f) : sProp 𝕄) = bigSep Finset.univ fun c : Fin 2 => coreHolds A d c f := by
  unfold coreHolds
  rw [bigSep_sep', ← o_cores]
  exact congrArg (fun R : sProp 𝕄 => iprop(R ∗ oLoc d ↦{fullShare} f)) (reads_shares A d fullShare 1)

theorem vecSplit : (K (F := F)).VecSplit' (P A) 0 := by
  intro d c
  show (coreHolds A d (Fin.cast nCore_zero c) (A.o d) : sProp 𝕄) ⊢ |={Set.univ}=> iprop(
      (bigSep Finset.univ fun i : Fin 16 => tileHolds A d (Fin.cast nCore_zero c) i (A.o d))
      ∗ ((bigSep Finset.univ fun i : Fin 16 => tileHolds A d (Fin.cast nCore_zero c) i (rescored A d))
          -∗ coreHolds A d (Fin.cast nCore_zero c) (rescored A d)))
  rw [← core_tiles, ← core_tiles]
  iintro H; imodintro
  isplitl [H]; · iexact H
  iintro H; iexact H

/-- What the call takes, and what it brings back. -/
theorem st0_eq : (bigSep Finset.univ fun c : Fin ((K (F := F)).nCore 0) => (P A).st 0 d c) = iprop(reads A d fullShare ∗ oLoc d ↦{fullShare} A.o d) :=
  (arrays_cores A d (A.o d)).symm
theorem dn0_eq : (bigSep Finset.univ fun c : Fin ((K (F := F)).nCore 0) => (P A).dn 0 d c) = iprop(reads A d fullShare ∗ oLoc d ↦{fullShare} rescored A d) :=
  (arrays_cores A d (rescored A d)).symm

end Deal

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ (A : Arrays F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

/-! ## The program on the TensorCore: the call, then the slice of its first hundred columns -/

section Main

variable (m : (ℓ : Loc nD τ sig) → Buf (Elt F) ℓ) (ρ : Dev nD → PrngReg)

/-- The four arrays as the program is launched with them. -/
def arrays : Arrays F where
  v d := m (vLoc d)
  q d := m (qLoc d)
  r d := m (rLoc d)
  o d := m (oLoc d)

abbrev sLoc (d : Dev nD) : Loc nD τ sig := (SparseCore.T d).loc main_v1
abbrev o' : DevRef τ sig := Proc.devRef .tc (main_v0 : Ref sig .tc)
abbrev s' : DevRef τ sig := Proc.devRef .tc (main_v1 : Ref sig .tc)
abbrev opSlice : HloOp τ sig (Elt F) :=
  StableHlo.unary main_v0 main_v1 ((extractStridedSlice S2x100 ![0, 0] · slices_S2x128_S2x100_0_0) : (⟨S2x128, .f32⟩ : BufTy).Contents (Elt F) → (⟨S2x100, .f32⟩ : BufTy).Contents (Elt F))

/-- The program's result: the first hundred entries of each row, rescored. -/
def final (d : Dev nD) : Buf (Elt F) (sLoc d) := extractStridedSlice S2x100 ![0, 0] (rescored (arrays m) d) slices_S2x128_S2x100_0_0

omit [FloatOps F] in
theorem unscopedBufs_eq (d : Dev nD) (W : (b : Ref sig .tc) → Buf (Elt F) ((d.tc : Thread nD τ).loc b)) :
    (unscopedBufs d W : sProp 𝕄)
      = iprop((vLoc d ↦{fullShare} W main_arg0) ∗ (qLoc d ↦{fullShare} W main_arg1) ∗ (rLoc d ↦{fullShare} W main_arg2)
          ∗ (oLoc d ↦{fullShare} W main_v0) ∗ sLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

omit [FloatOps F] in
/-- The two arrays of the slice. -/
theorem held_slice (d : Dev nD) (W : Valuation τ sig (Elt F)) :
    (held (SparseCore.T d) {o', s'} W : sProp 𝕄) = iprop((oLoc d ↦{fullShare} W o') ∗ sLoc d ↦{fullShare} W s') := by
  unfold held
  rw [SparseCore.bigSep_insert' (by decide), bigSep_singleton]

/-- The arrays' contents when the slice is taken: the call's result rescored, the rest as at the launch. -/
def V1 (d : Dev nD) : Valuation τ sig (Elt F) := Function.update (fun b => m (d, b)) o' (rescored (arrays m) d)

theorem V1_o (d : Dev nD) : V1 m d o' = rescored (arrays m) d := Function.update_self _ _ _
theorem V1_s (d : Dev nD) : V1 m d s' = m (sLoc d) := Function.update_of_ne (show s' ≠ o' by decide) _ _

theorem hSlice : (opSlice (F := F)).bufs ⊆ {o', s'} := show ({o', s'} : Finset (DevRef τ sig)) ⊆ {o', s'} from subset_rfl

theorem slice_result (d : Dev nD) : (opSlice (F := F)).result (V1 m d) s' = final m d :=
  (StableHlo.unary_result _ _ _ _ _ _).trans (by rw [V1_o]; rfl)

/-- What the program leaves the claims: the arguments as at the launch, the result. -/
abbrev FIN (d : Dev nD) : sProp 𝕄 :=
  iprop((vLoc d ↦{fullShare} m (vLoc d)) ∗ (qLoc d ↦{fullShare} m (qLoc d)) ∗ (rLoc d ↦{fullShare} m (rLoc d)) ∗ sLoc d ↦{fullShare} final m d)

/-- The program on device `d`'s TensorCore: the call on its four arrays, and the slice. -/
theorem hmain (κ : GSem nD τ sig → ℕ) (d : Dev nD) :
    iprop((K (F := F)).ctx EH (P (arrays m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hv, Hq, Hr, Ho, Hs⟩, Hts, -⟩, -⟩
  iapply ((K (F := F)).wp_run (D (F := F)) 𝒱 (EH := EH) (P := P (arrays m)) κ d 0) $$ [Hst Hv Hq Hr Ho Hb Hs Hts]
  isplitr; · iexact Hctx
  isplitl [Hst]; · iexact Hst
  isplitl [Hv Hq Hr Ho]
  · rw [st0_eq]
    unfold reads
    isplitr [Ho]
    · isplitl [Hv]; · iexact Hv
      isplitl [Hq]; · iexact Hq
      iexact Hr
    iexact Ho
  iintro ⟨Hst, Hdn⟩
  ihave Hdn' := (Entails.of_eq (dn0_eq (arrays m) d)) $$ Hdn
  unfold reads
  icases Hdn' with ⟨⟨Hv, Hq, Hr⟩, Ho⟩
  iapply (wp_hlo_within 𝒱 (SparseCore.T d) none Set.univ (op := opSlice) (S := {o', s'}) hSlice (V := V1 m d)) $$ [Hb Ho Hs]
  · isplitl [Hb]; · iexact Hb
    rw [held_slice, V1_o, V1_s]
    isplitl [Ho]; · iexact Ho
    iexact Hs
  iintro ⟨Hb, Hheld⟩
  ihave Hh := (Entails.of_eq (held_slice (F := F) d _)) $$ Hheld
  rw [slice_result]
  icases Hh with ⟨-, Hs⟩
  rw [wp_ret]; imodintro; imodintro
  isplitl [Hst]; · iexact Hst
  isplitr [Hb Hts]
  · isplitl [Hv]; · iexact Hv
    isplitl [Hq]; · iexact Hq
    isplitl [Hr]; · iexact Hr
    iexact Hs
  isplitl [Hb] <;> iassumption

/-- What the claims read of device `d`'s final state. -/
def fq (d : Dev nD) (s' : Phys nD τ sig (Elt F)) : Prop :=
  s'.mem.mem (vLoc d) = m (vLoc d) ∧ s'.mem.mem (qLoc d) = m (qLoc d) ∧ s'.mem.mem (rLoc d) = m (rLoc d) ∧ s'.mem.mem (sLoc d) = final m d

theorem hfin (d : Dev nD) (s' : Phys nD τ sig (Elt F)) : iprop(FIN m d ∗ SI s') ⊢ (⌜fq m d s'⌝ : sProp 𝕄) := by
  iintro ⟨⟨Hv, Hq, Hr, Hs⟩, HSI⟩
  ihave H := (persistent_entails_right (SI_pointsTo_agree (st := s') (ℓ := vLoc d) (I := Finset.univ) (q := fullShare) (f := m (vLoc d)))) $$ [HSI Hv]
  · isplitl [HSI] <;> iassumption
  icases H with ⟨%h1, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h2, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h3, HSI, -⟩
  ihave H := (SI_pointsTo_agree (st := s') (ℓ := sLoc d) (I := Finset.univ) (q := fullShare) (f := final m d)) $$ [HSI Hs]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

/-- After the run: the arguments unchanged, the result rescored, nothing left in flight. -/
def QC : PUnit × MemSt nD τ sig (Elt F) → Prop := fun r =>
  (∀ c : Dev nD, r.2.mem (vLoc c) = m (vLoc c) ∧ r.2.mem (qLoc c) = m (qLoc c) ∧ r.2.mem (rLoc c) = m (rLoc c) ∧ r.2.mem (sLoc c) = final m c)
    ∧ r.2.sem = fun _ => 0

/-- From query indices in range, every run of the program ends, with its result rescored. -/
theorem run_main [∀ e, Nonempty (Elt F e)] (hA : InRange (arrays m)) :
    θ_run (Cert.CallIdeal.defs (F := F)) (Cert.CallIdeal.threads (F := F)) ⟨m, fun _ => 0, ρ⟩ (QC m) :=
  SparseCore.Cfg.θ_run_sc_quiescent (K := K (F := F)) (D := D (F := F)) (𝒱 := 𝒱) (EH := EH) (P := P (arrays m)) (A := ∅) facts v₀
    (fun q hq => match q with | 0 => nomatch hq)
    (fun q _ => match q with | 0 => tileObl (arrays m) facts hA)
    (fun q _ => match q with | 0 => SparseCore.Cfg.VecSplit.of_plain (vecSplit (arrays m)))
    m ρ main (fun _ => iprop(emp)) (FIN m) (u₀ (F := F)) (sep_elim_left.trans (hu₀ (arrays m))) (hmain m ρ) (fq m) (hfin m) (QC m) (fun _ h hz => ⟨h, hz⟩)

end Main

end Cert.Proof.CallIdeal

end
-- ==== Proof.CallRef.lean ====
/- The reference's run and its result, entry by entry: the host operations of `take_along_axis` (negative indices wrapped, the
   gather, rows out of range filled) read at an index that is in range. -/
module

public import proofs.«01_k».proof.Defs
public import proofs.«01_k».proof.Proof.Gen.CallReferenceIdeal.Run
public import Idealize.ShloMosaic.Lib.ValueIdxCore
public import Idealize.ShloMosaic.Lib.ReduceAll
public import Idealize.ShloMosaic.Lib.Pipeline.Value

@[expose] public section

noncomputable section

namespace Cert.Proof.CallRef

open Cert.CallReferenceIdeal Cert.CallReferenceIdeal.Gen
open Idealize.ShloMosaic Idealize.ShloMosaic.TcCoe
open Idealize.ShloMosaic.ValueIdx (ix2 ix3 takeIdx)
open Idealize.SL.Sem

variable {F : FTy → Type} [FloatOps F]

/-! ## The gather of one column per index -/

/-- A row's gather reads, at `(b, k)`, the operand's row `b` at the column that index `(b, k)` names. -/
theorem gather_row {α : Type} (x : S2x150.Idx → α) (idx : IVec S2x100x1 32) (y : S2x100.Idx) (n : Fin 150)
    (hn : idx (takeIdx y) = BitVec.ofNat 32 n.val) :
    Host.gather gather_S2x150_S2x100x1_S2x100_n_1_0_0_1_2_11 x idx y = x (ix2 (y 0 : Fin 2) n) := by
  refine congrArg x (funext fun a => Fin.ext ?_)
  show GatherDims.start _ y idx a + GatherDims.batchCoord _ y a + GatherDims.offCoord _ y a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    exact dif_pos (List.mem_singleton.mpr rfl)
  | ⟨1, _⟩ =>
    rw [GatherDims.batchCoord_eq_zero _ _ _ (fun h => by cases h with | tail _ h => cases h),
      GatherDims.offCoord_eq_zero _ _ _ (fun h => ((GatherDims.mem_sKept _ _).mp h).1 (List.mem_singleton.mpr rfl)), Nat.add_zero]
    unfold GatherDims.start
    have at_take : ∀ z : S2x100x1.Idx, z = takeIdx y → min (idx z).toInt.toNat 149 = n.val := by
      rintro z rfl
      have := n.isLt
      rw [hn, BitVec.toInt_eq_toNat_of_lt (by rw [BitVec.toNat_ofNat, Nat.mod_eq_of_lt] <;> omega), BitVec.toNat_ofNat, Nat.mod_eq_of_lt (by omega)]
      simp only [Int.toNat_natCast]; omega
    exact (dif_pos (List.mem_singleton.mpr rfl)).trans (at_take _ (funext fun b => Fin.ext (by match b with | ⟨0, _⟩ => rfl | ⟨1, _⟩ => rfl | ⟨2, _⟩ => rfl)))

/-! ## The result -/

/-- Column `k` of the first hundred, as a column of the whole. -/
def col (y : S2x100.Idx) : S2x128.Idx := fun
  | ⟨0, _⟩ => (y 0 : Fin 2)
  | ⟨1, _⟩ => (⟨(y 1).val, Nat.lt_of_lt_of_le (y 1).isLt (by decide)⟩ : Fin 128)

theorem slice_col {α : Type} (x : S2x128.Idx → α) (h : S2x128.Slices ![0, 0] S2x100) : extractStridedSlice S2x100 ![0, 0] x h = fun y => x (col y) := by
  funext y
  refine congrArg x (funext fun a => Fin.ext ?_)
  match a with
  | ⟨0, _⟩ => exact Nat.zero_add _
  | ⟨1, _⟩ => exact Nat.zero_add _

/-- The reference's result: every score of the first hundred columns times the ratio its query number names. -/
def rescored (v : FVec F S2x128 .f32) (q : IVec S2x128 32) (r : FVec F S2x1x160 .f32) : FVec F S2x100 .f32 := fun y =>
  FloatOps.mulf (v (col y)) (r (ix3 (y 0 : Fin 2) (0 : Fin 1) (⟨(q (col y)).toNat % 160, Nat.mod_lt _ (by decide)⟩ : Fin 160)))

/-- A query number in range is not negative, so that it is not wrapped. -/
theorem wrap_eq (q : IVec S2x100 32) (hq : ∀ y, (q y).toNat < 150) (z w : IVec S2x100 32) (hz : z = fun _ => 0#32) :
    select (cmpi .slt q z) w q = q := by
  subst hz
  funext y
  show Scalar.select (IntOp.cmpi .slt (q y) 0#32) (w y) (q y) = q y
  rw [show IntOp.cmpi .slt (q y) 0#32 = 0#1 from ?_]; · rfl
  have := hq y
  refine (congrArg BitVec.ofBool (decide_eq_false ?_ : BitVec.slt (q y) 0#32 = false))
  rw [BitVec.toInt_eq_toNat_of_lt (by omega)]
  exact Int.not_lt.mpr (Int.natCast_nonneg _)

theorem column_take (q : IVec S2x100 32) (h : S2x100.ShapeCasts S2x100x1) (z : S2x100x1.Idx) :
    shapeCast S2x100x1 q h z = q (ix2 (z 0 : Fin 2) (z 1 : Fin 100)) := by
  refine shapeCast_apply q h z _ ?_
  rw [Shape.rowMajor_val_three, Shape.rowMajor_val_two]
  have : (z 2).val < 1 := (z 2).isLt
  show (z 0).val * 100 + (z 1).val = ((z 0).val * 100 + (z 1).val) * 1 + (z 2).val
  omega

/-- The ratios without their middle axis, of the first 150 queries. -/
theorem ratios_apply (r : FVec F S2x1x160 .f32) (h : S2x1x160.Slices ![0, 0, 0] S2x1x150) (h' : S2x1x150.ShapeCasts S2x150) (b : Fin 2) (n : Fin 150) :
    shapeCast S2x150 (extractStridedSlice S2x1x150 ![0, 0, 0] r h) h' (ix2 b n) = r (ix3 b (0 : Fin 1) (⟨n.val, by omega⟩ : Fin 160)) := by
  refine (shapeCast_apply _ h' _ (ix3 b (0 : Fin 1) n) ?_).trans ?_
  · rw [Shape.rowMajor_val_three, Shape.rowMajor_val_two]
    show (b.val * 1 + 0) * 150 + n.val = b.val * 150 + n.val
    omega
  · refine congrArg r (funext fun a => Fin.ext ?_)
    match a with
    | ⟨0, _⟩ => exact Nat.zero_add _
    | ⟨1, _⟩ => exact Nat.zero_add _
    | ⟨2, _⟩ => exact Nat.zero_add _

/-- An in-range query number passes the test for filling. -/
theorem in_rows (w : BitVec 32) (h : w.toNat < 150) : IntOp.andi (IntOp.cmpi .sge w 0#32) (IntOp.cmpi .sle w 149#32) = 1#1 := by
  have e : w.toInt = w.toNat := BitVec.toInt_eq_toNat_of_lt (by omega)
  rw [(IntOp.cmpi_sge (x := w) (y := 0#32)).2 (show (0 : ℤ) ≤ w.toInt by omega), (IntOp.cmpi_sle (x := w) (y := 149#32)).2 (show w.toInt ≤ (149 : ℤ) by omega)]
  rfl

/-- `take_along_axis` at query numbers in range, and the product with the scores. -/
theorem result_eq (v : FVec F S2x128 .f32) (q : IVec S2x128 32) (r : FVec F S2x1x160 .f32) (hq : ∀ j, (q j).toNat < 150) :
    mulf (extractStridedSlice S2x100 ![0, 0] v slices_S2x128_S2x100_0_0) (select (Host.reduce IntOp.andi (andi (cmpi .sge (shapeCast _ (select (cmpi .slt (extractStridedSlice S2x100 ![0, 0] q slices_S2x128_S2x100_0_0) (broadcastInDim S2x100 ![] bcast_S_S2x100 (constantI S_ 32 0#32))) (addi (extractStridedSlice S2x100 ![0, 0] q slices_S2x128_S2x100_0_0) (broadcastInDim S2x100 ![] bcast_S_S2x100 (constantI S_ 32 150#32))) (extractStridedSlice S2x100 ![0, 0] q slices_S2x128_S2x100_0_0)) shapeCasts_S2x100_S2x100x1) (broadcastInDim S2x100x1 ![] bcast_S_S2x100x1 (constantI S_ 32 0#32))) (cmpi .sle (shapeCast _ (select (cmpi .slt (extractStridedSlice S2x100 ![0, 0] q slices_S2x128_S2x100_0_0) (broadcastInDim S2x100 ![] bcast_S_S2x100 (constantI S_ 32 0#32))) (addi (extractStridedSlice S2x100 ![0, 0] q slices_S2x128_S2x100_0_0) (broadcastInDim S2x100 ![] bcast_S_S2x100 (constantI S_ 32 150#32))) (extractStridedSlice S2x100 ![0, 0] q slices_S2x128_S2x100_0_0)) shapeCasts_S2x100_S2x100x1) (broadcastInDim S2x100x1 ![0, 1, 2] bcast_S1x1x1_S2x100x1_0_1_2 (broadcastInDim S1x1x1 ![2] bcast_S1_S1x1x1_2 (constantI S1 32 149#32))))) (constantI S_ 1 1#1) reducesTo_S2x100x1_S2x100_d2 h_S_) (Host.gather gather_S2x150_S2x100x1_S2x100_n_1_0_0_1_2_11 (shapeCast _ (extractStridedSlice S2x1x150 ![0, 0, 0] r slices_S2x1x160_S2x1x150_0_0_0) shapeCasts_S2x1x150_S2x150) (shapeCast _ (select (cmpi .slt (extractStridedSlice S2x100 ![0, 0] q slices_S2x128_S2x100_0_0) (broadcastInDim S2x100 ![] bcast_S_S2x100 (constantI S_ 32 0#32))) (addi (extractStridedSlice S2x100 ![0, 0] q slices_S2x128_S2x100_0_0) (broadcastInDim S2x100 ![] bcast_S_S2x100 (constantI S_ 32 150#32))) (extractStridedSlice S2x100 ![0, 0] q slices_S2x128_S2x100_0_0)) shapeCasts_S2x100_S2x100x1)) (broadcastInDim S2x100 ![] bcast_S_S2x100 (constant (F := F) S_ .f32 0x7FC00000#32)))
      = rescored v q r := by
  have hq' : ∀ y, (extractStridedSlice S2x100 ![0, 0] q slices_S2x128_S2x100_0_0 y).toNat < 150 := fun y => by rw [slice_col]; exact hq _
  rw [wrap_eq _ hq' (broadcastInDim S2x100 ![] bcast_S_S2x100 (constantI S_ 32 0#32)) _ rfl, slice_col q]
  funext y
  rw [slice_col v]
  refine congrArg (FloatOps.mulf (v (col y))) ?_
  refine (congrArg (fun c => Scalar.select c _ _) (Host.reduce_andi_one _ _ _ _ y rfl fun z => ?_)).trans ?_
  · rw [show ∀ a b : IVec S2x100x1 1, andi a b z = IntOp.andi (a z) (b z) from fun _ _ => rfl]
    show IntOp.andi (IntOp.cmpi .sge (shapeCast S2x100x1 _ _ z) 0#32) (IntOp.cmpi .sle (shapeCast S2x100x1 _ _ z) 149#32) = 1#1
    rw [column_take]
    exact in_rows _ (hq _)
  · have hy : (q (col y)).toNat < 150 := hq _
    refine (gather_row _ _ y ⟨_, hy⟩ ?_).trans ((ratios_apply r slices_S2x1x160_S2x1x150_0_0_0 _ _ _).trans (congrArg r ?_))
    · rw [column_take]
      have hz : (ix2 (takeIdx y 0 : Fin 2) (takeIdx y 1 : Fin 100) : S2x100.Idx) = y := funext fun a => by match a with | ⟨0, _⟩ => rfl | ⟨1, _⟩ => rfl
      exact (congrArg (fun z => q (col z)) hz).trans (BitVec.eq_of_toNat_eq (by rw [BitVec.toNat_ofNat, Nat.mod_eq_of_lt (by omega)]))
    · exact congrArg (ix3 (y 0 : Fin 2) (0 : Fin 1)) (Fin.ext (Nat.mod_eq_of_lt (by omega)).symm)

/-- Every run of the reference from query numbers in range ends with its result rescored and its arguments unchanged. -/
theorem run_value (m : (ℓ : Loc nD τ sig) → Buf (Elt F) ℓ) (ρ : Dev nD → PrngReg)
    (hq : ∀ (c : Dev nD) (j : S2x128.Idx), ((m ((c.tc : Thread nD τ).loc main_arg1) : IVec S2x128 32) j).toNat < 150) :
    θ_run defs (onTc (τ := τ) (main (F := F))) ⟨m, fun _ => 0, ρ⟩ fun r => ∀ c : Dev nD,
      r.2.mem ((c.tc : Thread nD τ).loc main_v5) = rescored (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _ (hq c)), (h c).2⟩) (Cert.CallReferenceIdeal.Value.run m ρ)

end Cert.Proof.CallRef

end
-- ==== Proof.CallClaims.lean ====
/- The claims of the SparseCore call alone: its program at the two float instances, its reference, and the equation between them. -/
module

public import proofs.«01_k».proof.Defs
public import proofs.«01_k».proof.Proof.Call
public import proofs.«01_k».proof.Proof.CallIdeal
public import proofs.«01_k».proof.Proof.CallRef
public import proofs.«01_k».proof.Proof.Gen.Call
public import proofs.«01_k».proof.Proof.Gen.Call.Skeleton
public import proofs.«01_k».proof.Proof.Gen.CallIdeal
public import proofs.«01_k».proof.Proof.Gen.CallIdeal.Skeleton
public import proofs.«01_k».proof.Proof.Gen.CallReferenceIdeal
public import proofs.«01_k».proof.Proof.Gen.CallReferenceIdeal.Run
public import proofs.«01_k».proof.Proof.Gen.Pre_queries

@[expose] public section

noncomputable section

namespace Cert.Proof

open Idealize.ShloMosaic Idealize.ShloMosaic.TcCoe
open Idealize.ShloMosaic.ValueIdx (ix3)
open Idealize.SL.Sem

/-! ## What the precondition says -/

instance : Subsingleton Cert.Pre_queries.S_.Idx := ⟨fun _ _ => funext fun a => a.elim0⟩

/-- A word between 0 and 150 in signed order is a number below 150. -/
theorem lt_of_signed (w : BitVec 32) (e : IntOp.andi (IntOp.cmpi .sge w 0#32) (IntOp.cmpi .slt w 150#32) = 1#1) : w.toNat < 150 := by
  have both : ∀ a b : BitVec 1, IntOp.andi a b = 1#1 → a = 1#1 ∧ b = 1#1 := by decide
  have h0 : (0 : ℤ) ≤ w.toInt := IntOp.cmpi_sge.1 (both _ _ e).1
  have h1 : w.toInt < (150 : ℤ) := IntOp.cmpi_slt.1 (both _ _ e).2
  rw [BitVec.toInt_eq_toNat_cond] at h0 h1
  split at h1 <;> omega

/-- The precondition at work: every query number is below 150. -/
theorem queries_lt {F : FTy → Type} [FloatOps F] (v : FVec F Cert.Pre_queries.S2x128 .f32) (q : IVec Cert.Pre_queries.S2x128 32) (r : FVec F Cert.Pre_queries.S2x1x160 .f32)
    (h : Cert.Pre_queries.fn (F := F) v q r = fun _ => 1#1) (j : Cert.Pre_queries.S2x128.Idx) : (q j).toNat < 150 :=
  lt_of_signed _ (Host.reduce_andi_all _ _ _ _ (fun a => a.elim0) (congrFun h fun a => a.elim0) j)

/-! ## The claims -/

theorem frame_call : Cert.quiescent_Call := fun m ρ hpre =>
  (θ_run Cert.Call.defs _ _).mono (fun _ h => ⟨fun c => ⟨(h.1 c).1, (h.1 c).2.1, (h.1 c).2.2.1⟩, h.2⟩)
    (Cert.Proof.Call.run_main (F := Bits) m ρ fun d j => lt_trans (queries_lt _ _ _ (hpre d) j) (by decide))

theorem frame_callIdeal : Cert.quiescent_CallIdeal := fun m ρ hpre =>
  (θ_run Cert.CallIdeal.defs _ _).mono (fun _ h => ⟨fun c => ⟨(h.1 c).1, (h.1 c).2.1, (h.1 c).2.2.1⟩, h.2⟩)
    (Cert.Proof.CallIdeal.run_main (F := Ideal) m ρ fun d j => lt_trans (queries_lt _ _ _ (hpre d) j) (by decide))

theorem frame_callReference : Cert.quiescent_CallReferenceIdeal := fun m ρ _ =>
  (θ_run Cert.CallReferenceIdeal.defs _ _).mono (fun r h => ⟨fun c => (h c).2, sem_eq_zero_of_no_sems (by decide) r.2⟩)
    (Cert.CallReferenceIdeal.Value.run (F := Ideal) m ρ)

theorem frame_callReference_pre : Cert.quiescent_CallReferenceIdeal_pre_queries := fun m ρ _ => frame_callReference m ρ trivial

/-- The kernel's rescored array, cut to its first hundred columns, is the reference's result. -/
theorem final_eq (m : (ℓ : Loc Cert.CallIdeal.nD Cert.CallIdeal.τ Cert.CallIdeal.sig) → Buf (Elt Ideal) ℓ) (c : Dev Cert.CallIdeal.nD) :
    Cert.Proof.CallIdeal.final m c
      = Cert.Proof.CallRef.rescored (F := Ideal) (m (Cert.Proof.CallIdeal.vLoc c)) (m (Cert.Proof.CallIdeal.qLoc c)) (m (Cert.Proof.CallIdeal.rLoc c)) := by
  refine (Cert.Proof.CallRef.slice_col _ _).trans (funext fun y => congrArg (FloatOps.mulf _) (congrArg (m (Cert.Proof.CallIdeal.rLoc c)) (funext fun a => ?_)))
  match a with
  | ⟨0, _⟩ => rfl
  | ⟨1, _⟩ => rfl
  | ⟨2, _⟩ => rfl

theorem algebraic_call : Cert.algebraic_CallIdeal_CallReferenceIdeal := by
  intro m ρ m' ρ' hpre hm
  have hq : ∀ (c : Dev Cert.CallIdeal.nD) (j : Cert.CallReferenceIdeal.S2x128.Idx), ((m (Cert.Proof.CallIdeal.qLoc c) : IVec Cert.CallReferenceIdeal.S2x128 32) j).toNat < 150 :=
    fun c j => queries_lt _ _ _ (hpre c) j
  refine ⟨fun c => Cert.Proof.CallIdeal.final m c, ?_, ?_⟩
  · exact (θ_run Cert.CallIdeal.defs _ _).mono (fun _ h c => ⟨(h.1 c).2.2.2, (h.1 c).1, (h.1 c).2.1, (h.1 c).2.2.1⟩)
      (Cert.Proof.CallIdeal.run_main (F := Ideal) m ρ fun d j => lt_trans (hq d j) (by decide))
  · refine (θ_run Cert.CallReferenceIdeal.defs _ _).mono (fun _ h c => ⟨(h c).1.trans ?_, (h c).2⟩)
      (Cert.Proof.CallRef.run_value (F := Ideal) m' ρ' fun c j => by rw [(hm c).2.1]; exact hq c j)
    rw [(hm c).1, (hm c).2.1, (hm c).2.2]
    exact (final_eq m c).symm

end Cert.Proof

end
-- ==== Proof.Sc.lean ====
/-
  The SparseCore call of the program, at any float instance: what each of the vector subcores does with the rows it is
  handed, and how the call's arrays are dealt to the two SparseCores and their tiles and come back.

  Two SparseCores run the call, SparseCore `c` over row `c`. Of its sixteen tiles the first eight each rescore sixteen
  entries of the row: the tile copies its scores, its query numbers and the row's mask ratios into its own memory, looks
  the ratios up at the query numbers, multiplies, and copies the sixteen products out. The other eight do nothing. The
  contents of the three arrays read are parameters throughout (`Arrays`), so that the same lemmas serve whatever filled
  them.
-/
module

public import proofs.«01_k».proof.Defs
public import Idealize.ShloMosaic.Lib.ShareLeaves
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and belong to no kernel. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The certificate's ghost state: the handshakes' rounds, the pipelines' rounds and the transfers' counters. -/
abbrev UH : Type := URounds (GSem nD τ sig) ℕ
abbrev UU : Type := (UH × UR sig nD τ) × Counters

local notation "𝕄" => MT nD τ sig (HIx 1) (Elt F) ℕ UU ℕ

abbrev EH : Emb UH (MT nD τ sig (HIx 1) (Elt F) ℕ UU ℕ) := (Emb.inl : Emb UH (UH × UR sig nD τ)).trans embL
abbrev EP : Emb (UR sig nD τ) (MT nD τ sig (HIx 1) (Elt F) ℕ UU ℕ) := (Emb.inr : Emb (UR sig nD τ) (UH × UR sig nD τ)).trans embL
instance EP_landsIn : (EP (F := F)).LandsIn (upEmb : UEmb _ 𝕄) := inferInstance

/-! ## The arrays the call reads and the one it writes -/

abbrev vLoc (d : Dev nD) : Loc nD τ sig := (SparseCore.T d).loc main_v0_1
abbrev qLoc (d : Dev nD) : Loc nD τ sig := (SparseCore.T d).loc main_v0_3
abbrev rLoc (d : Dev nD) : Loc nD τ sig := (SparseCore.T d).loc main_v1_2
abbrev oLoc (d : Dev nD) : Loc nD τ sig := (SparseCore.T d).loc main_v2

local notation "vV" => (Memref.whole Cert.KernelIdeal.main_v0_1_scv : Memref Cert.KernelIdeal.sig Kind.scVector Space.hbm Cert.KernelIdeal.S2x128 EltTy.f32)
local notation "qV" => (Memref.whole Cert.KernelIdeal.main_v0_3_scv : Memref Cert.KernelIdeal.sig Kind.scVector Space.hbm Cert.KernelIdeal.S2x128 EltTy.i32)
local notation "rV" => (Memref.whole Cert.KernelIdeal.main_v1_2_scv : Memref Cert.KernelIdeal.sig Kind.scVector Space.hbm Cert.KernelIdeal.S2x1x160 EltTy.f32)
local notation "oV" => (Memref.whole Cert.KernelIdeal.main_v2_scv : Memref Cert.KernelIdeal.sig Kind.scVector Space.hbm Cert.KernelIdeal.S2x128 EltTy.f32)
local notation "tvV" => (Memref.whole Cert.KernelIdeal.cc2_scratch0 : Memref Cert.KernelIdeal.sig Kind.scVector Space.vmem Cert.KernelIdeal.S16 EltTy.f32)
local notation "tqV" => (Memref.whole Cert.KernelIdeal.cc2_scratch1 : Memref Cert.KernelIdeal.sig Kind.scVector Space.vmem Cert.KernelIdeal.S16 EltTy.i32)
local notation "trV" => (Memref.whole Cert.KernelIdeal.cc2_scratch2 : Memref Cert.KernelIdeal.sig Kind.scVector Space.vmem Cert.KernelIdeal.S160 EltTy.f32)
local notation "toV" => (Memref.whole Cert.KernelIdeal.cc2_scratch3 : Memref Cert.KernelIdeal.sig Kind.scVector Space.vmem Cert.KernelIdeal.S16 EltTy.f32)

/-- What the call's arrays hold when it starts: scores, query numbers, mask ratios, and whatever the result array holds. -/
structure Arrays (F : FTy → Type) where
  v : (d : Dev nD) → FVec F S2x128 .f32
  q : (d : Dev nD) → IVec S2x128 32
  r : (d : Dev nD) → FVec F S2x1x160 .f32
  o : (d : Dev nD) → FVec F S2x128 .f32

/-- The ratio that query number `w` names in row `b`. -/
def ratioIx (b : Fin 2) (w : BitVec 32) : S2x1x160.Idx := fun
  | ⟨0, _⟩ => b
  | ⟨1, _⟩ => (0 : Fin 1)
  | ⟨2, _⟩ => (⟨w.toNat % 160, Nat.mod_lt _ (by decide)⟩ : Fin 160)

/-- What the proof asks of the query numbers: each names one of the row's 160 ratios. -/
def InRange (A : Arrays F) : Prop := ∀ (d : Dev nD) (j : S2x128.Idx), (A.q d j).toNat < 160

/-- The rescored array: every score times the ratio its query number names. -/
def rescored [FloatOps F] (A : Arrays F) (d : Dev nD) : FVec F S2x128 .f32 := fun j => FloatOps.mulf (A.v d j) (A.r d (ratioIx (j 0) (A.q d j)))

/-- The entries tile `i` of SparseCore `c` rescores (none from tile 8 on), and those of the whole SparseCore. -/
def oTile (c i : ℕ) : Finset S2x128.Idx := Finset.univ.filter fun j => (j 0).val = c ∧ (j 1).val / 16 = i
def oCore (c : ℕ) : Finset S2x128.Idx := Finset.univ.filter fun j => (j 0).val = c

/-- The read shares: half of an array for each SparseCore, a sixteenth of that for each of its tiles. -/
abbrev shCore (c : Fin 2) : PosShare TreeShare := leaf 1 fullShare c
abbrev shTile (c : Fin 2) (i : Fin 16) : PosShare TreeShare := leaf 4 (shCore c) i

/-- The three arrays read, at a share. -/
abbrev reads (A : Arrays F) (d : Dev nD) (s : PosShare TreeShare) : sProp 𝕄 :=
  iprop((vLoc d ↦{s} A.v d) ∗ (qLoc d ↦{s} A.q d) ∗ rLoc d ↦{s} A.r d)

/-- What a tile holds: its share of the arrays read, and its entries of the result, at contents `f`. -/
abbrev tileHolds (A : Arrays F) (d : Dev nD) (c : Fin 2) (i : Fin 16) (f : Buf (Elt F) (oLoc d)) : sProp 𝕄 :=
  iprop(reads A d (shTile c i) ∗ oLoc d ↦[oTile c.val i.val]{fullShare} f)

/-- What a SparseCore holds: its share of the arrays read, and its row of the result, at contents `f`. -/
abbrev coreHolds (A : Arrays F) (d : Dev nD) (c : Fin 2) (f : Buf (Elt F) (oLoc d)) : sProp 𝕄 :=
  iprop(reads A d (shCore c) ∗ oLoc d ↦[oCore c.val]{fullShare} f)

variable [FloatOps F]

/-- What the handshakes of the call carry: each SparseCore, and each tile, takes its part with the result array as the
    call found it and brings it back rescored. -/
def P (A : Arrays F) : (K (F := F)).Pay (nD := nD) (Val := Elt F) (Name := ℕ) (U := UU) where
  st := fun q d c => match q with | 0 => coreHolds A d (Fin.cast nCore_zero c) (A.o d)
  dn := fun q d c => match q with | 0 => coreHolds A d (Fin.cast nCore_zero c) (rescored A d)
  go := fun q d c i => match q with | 0 => tileHolds A d (Fin.cast nCore_zero c) (Fin.cast nSub_zero i) (A.o d)
  td := fun q d c i => match q with | 0 => tileHolds A d (Fin.cast nCore_zero c) (Fin.cast nSub_zero i) (rescored A d)
  x := fun _ _ => iprop(emp)

instance P_storable (A : Arrays F) : (P A).IsStorable where
  st q d c := match q with
    | 0 => (inferInstance : BI.Storable (upEmb : UEmb _ 𝕄) (coreHolds A d (Fin.cast nCore_zero c) (A.o d)))
  dn q d c := match q with
    | 0 => (inferInstance : BI.Storable (upEmb : UEmb _ 𝕄) (coreHolds A d (Fin.cast nCore_zero c) (rescored A d)))
  go q d c i := match q with
    | 0 => (inferInstance : BI.Storable (upEmb : UEmb _ 𝕄) (tileHolds A d (Fin.cast nCore_zero c) (Fin.cast nSub_zero i) (A.o d)))
  td q d c i := match q with
    | 0 => (inferInstance : BI.Storable (upEmb : UEmb _ 𝕄) (tileHolds A d (Fin.cast nCore_zero c) (Fin.cast nSub_zero i) (rescored A d)))

/-! ## One tile -/

section Tile

variable (A : Arrays F) (d : Dev nD) (L : grid2.Coords)

abbrev cV (L : grid2.Coords) : Fin τ.nSC := (L 0).castLE hcore2
abbrev jV (L : grid2.Coords) : Fin τ.nSub := (L 1).castLE hsub2
abbrev cL (L : grid2.Coords) : Fin 2 := Fin.cast rfl (L 0)
abbrev jL (L : grid2.Coords) : Fin 16 := Fin.cast rfl (L 1)

/-- The first eight tiles of a SparseCore work. -/
theorem works_iff : ∀ L : grid2.Coords, k2_cond1 L = 1#1 ↔ (L 1).val < 8 := by decide +kernel

variable (h : k2_cond1 L = 1#1)

/-- The tile's sixteen scores, query numbers and results, and its row of the ratios, as the tile addresses them. -/
abbrev vK : Memref sig .scVector .hbm S16 .f32 := ((vV).slice (Rect.unit (s := S2x128) (k2_off1 L) S1x16.size (k2_off1_inb L h)) (fun _ => rfl)).squeeze S16 squeezes_S1x16_S16
abbrev qK : Memref sig .scVector .hbm S16 .i32 := ((qV).slice (Rect.unit (s := S2x128) (k2_off1 L) S1x16.size (k2_off1_inb L h)) (fun _ => rfl)).squeeze S16 squeezes_S1x16_S16
abbrev rK : Memref sig .scVector .hbm S160 .f32 := ((rV).slice (Rect.unit (s := S2x1x160) (k2_off2 L) S1x1x160.size (k2_off2_inb L h)) (fun _ => rfl)).squeeze S160 squeezes_S1x1x160_S160
abbrev oK : Memref sig .scVector .hbm S16 .f32 := ((oV).slice (Rect.unit (s := S2x128) (k2_off3 L) S1x16.size (k2_off3_inb L h)) (fun _ => rfl)).squeeze S16 squeezes_S1x16_S16

/-- Entry `x` of the tile's sixteen, in the two-row arrays, and ratio `x` of the tile's row. -/
def at16 (x : S16.Idx) : S2x128.Idx := fun
  | ⟨0, _⟩ => cL L
  | ⟨1, _⟩ => (⟨(16 * (L 1).val + (x 0).val) % 128, Nat.mod_lt _ (by decide)⟩ : Fin 128)
def at160 (x : S160.Idx) : S2x1x160.Idx := fun
  | ⟨0, _⟩ => cL L
  | ⟨1, _⟩ => (0 : Fin 1)
  | ⟨2, _⟩ => (x 0 : Fin 160)

theorem unsqueeze16 : ∀ x : S16.Idx, (Shape.reshapeEquiv squeezes_S1x16_S16.numel_eq x 0).val = 0 ∧ (Shape.reshapeEquiv squeezes_S1x16_S16.numel_eq x 1).val = (x 0).val := by
  decide +kernel
theorem unsqueeze160 : ∀ x : S160.Idx, (Shape.reshapeEquiv squeezes_S1x1x160_S160.numel_eq x 0).val = 0 ∧ (Shape.reshapeEquiv squeezes_S1x1x160_S160.numel_eq x 1).val = 0
    ∧ (Shape.reshapeEquiv squeezes_S1x1x160_S160.numel_eq x 2).val = (x 0).val := by
  decide +kernel

/-- Lane `k` of sixteen, as an index. -/
def lane16 (k : Fin 16) : S16.Idx := fun | ⟨0, _⟩ => k

theorem at16_val (hL : (L 1).val < 8) (x : S16.Idx) : (at16 L x 1).val = 16 * (L 1).val + (x 0).val := by
  show (16 * (L 1).val + (x 0).val) % 128 = _
  have := (x 0).isLt
  have : (x 0).val < 16 := this
  omega

theorem emb_off1 (x : S16.Idx) :
    (Rect.unit (s := S2x128) (k2_off1 L) S1x16.size (k2_off1_inb L h)).emb (Shape.reshapeEquiv squeezes_S1x16_S16.numel_eq x) = at16 L x := by
  have hL := (works_iff L).mp h
  funext a; apply Fin.ext
  refine (ValueKit.rect_emb_unit_val _ _ _ _ a).trans ((congrArg (· + _) (congrFun (k2_off1_eq L) a)).trans ?_)
  match a with
  | ⟨0, _⟩ => exact (congrArg ((L 0).val + ·) (unsqueeze16 x).1)
  | ⟨1, _⟩ => exact (congrArg (16 * (L 1).val + ·) (unsqueeze16 x).2).trans (at16_val L hL x).symm

theorem emb_off3 (x : S16.Idx) :
    (Rect.unit (s := S2x128) (k2_off3 L) S1x16.size (k2_off3_inb L h)).emb (Shape.reshapeEquiv squeezes_S1x16_S16.numel_eq x) = at16 L x := by
  have hL := (works_iff L).mp h
  funext a; apply Fin.ext
  refine (ValueKit.rect_emb_unit_val _ _ _ _ a).trans ((congrArg (· + _) (congrFun (k2_off3_eq L) a)).trans ?_)
  match a with
  | ⟨0, _⟩ => exact (congrArg ((L 0).val + ·) (unsqueeze16 x).1)
  | ⟨1, _⟩ => exact (congrArg (16 * (L 1).val + ·) (unsqueeze16 x).2).trans (at16_val L hL x).symm

theorem emb_off2 (x : S160.Idx) :
    (Rect.unit (s := S2x1x160) (k2_off2 L) S1x1x160.size (k2_off2_inb L h)).emb (Shape.reshapeEquiv squeezes_S1x1x160_S160.numel_eq x) = at160 L x := by
  funext a; apply Fin.ext
  refine (ValueKit.rect_emb_unit_val _ _ _ _ a).trans ((congrArg (· + _) (congrFun (k2_off2_eq L) a)).trans ?_)
  match a with
  | ⟨0, _⟩ => exact (congrArg ((L 0).val + ·) (unsqueeze160 x).1)
  | ⟨1, _⟩ => exact (congrArg (0 + ·) (unsqueeze160 x).2.1)
  | ⟨2, _⟩ => exact (congrArg (0 + ·) (unsqueeze160 x).2.2).trans (Nat.zero_add _)

/-- The tile's addresses: entry `x` of its scores, query numbers and results is entry `at16 L x` of the array. -/
theorem read_vK (f : FVec F S2x128 .f32) : (vK L h).view.read (Elt F) f = fun x => f (at16 L x) := by
  funext x
  exact congrArg f (emb_off1 L h x)
theorem read_qK (f : IVec S2x128 32) : (qK L h).view.read (Elt F) f = fun x => f (at16 L x) := by
  funext x
  exact congrArg f (emb_off1 L h x)
theorem read_rK (f : FVec F S2x1x160 .f32) : (rK L h).view.read (Elt F) f = fun x => f (at160 L x) := by
  funext x
  exact congrArg f (emb_off2 L h x)
theorem emb_oK (x : S16.Idx) : (oK L h).view.emb x = at16 L x := emb_off3 L h x

/-- The tile's part of the result array is `oTile`. -/
theorem set_oK : (oK L h).view.set = oTile (cL L).val (jL L).val := by
  have hL := (works_iff L).mp h
  ext j
  constructor
  · intro hj
    obtain ⟨x, rfl⟩ := View.exists_emb_of_mem_set _ hj
    rw [emb_oK]
    refine Finset.mem_filter.mpr ⟨Finset.mem_univ _, rfl, ?_⟩
    rw [at16_val L hL]
    have : (x 0).val < 16 := (x 0).isLt
    show _ = (L 1).val
    omega
  · intro hj
    obtain ⟨-, h0, h1⟩ := Finset.mem_filter.mp hj
    have h1' : (j 1).val / 16 = (L 1).val := h1
    have e : (oK L h).view.emb (lane16 ⟨(j 1).val % 16, Nat.mod_lt _ (by decide)⟩) = j := by
      rw [emb_oK]
      funext a; apply Fin.ext
      match a with
      | ⟨0, _⟩ => exact h0.symm
      | ⟨1, _⟩ =>
        refine (at16_val L hL _).trans ?_
        show 16 * (L 1).val + (j 1).val % 16 = (j 1).val
        omega
    exact e ▸ View.emb_mem_set _ _

/-! The call's arrays and the tile's own memory, as the tile addresses them whole. -/

theorem pts_oK (f : Buf (Elt F) (oLoc d)) :
    ((oK L h).view.loc (V d (cV L) (jV L)) ↦[(oK L h).view.set]{fullShare} f : sProp 𝕄) = oLoc d ↦[oTile (cL L).val (jL L).val]{fullShare} f := by
  rw [set_oK]
theorem pts_vV (s : PosShare TreeShare) (f : Buf (Elt F) (vLoc d)) :
    ((vV).view.loc (V d (cV L) (jV L)) ↦{s} f : sProp 𝕄) = vLoc d ↦{s} f := rfl
theorem pts_qV (s : PosShare TreeShare) (f : Buf (Elt F) (qLoc d)) :
    ((qV).view.loc (V d (cV L) (jV L)) ↦{s} f : sProp 𝕄) = qLoc d ↦{s} f := rfl
theorem pts_rV (s : PosShare TreeShare) (f : Buf (Elt F) (rLoc d)) :
    ((rV).view.loc (V d (cV L) (jV L)) ↦{s} f : sProp 𝕄) = rLoc d ↦{s} f := rfl
theorem pts_tvV (f : Buf (Elt F) ((V d (cV L) (jV L)).loc cc2_scratch0)) :
    ((tvV).view.loc (V d (cV L) (jV L)) ↦{fullShare} f : sProp 𝕄) = (V d (cV L) (jV L)).loc cc2_scratch0 ↦{fullShare} f := rfl
theorem pts_tqV (f : Buf (Elt F) ((V d (cV L) (jV L)).loc cc2_scratch1)) :
    ((tqV).view.loc (V d (cV L) (jV L)) ↦{fullShare} f : sProp 𝕄) = (V d (cV L) (jV L)).loc cc2_scratch1 ↦{fullShare} f := rfl
theorem pts_trV (f : Buf (Elt F) ((V d (cV L) (jV L)).loc cc2_scratch2)) :
    ((trV).view.loc (V d (cV L) (jV L)) ↦{fullShare} f : sProp 𝕄) = (V d (cV L) (jV L)).loc cc2_scratch2 ↦{fullShare} f := rfl
theorem pts_toV (f : Buf (Elt F) ((V d (cV L) (jV L)).loc cc2_scratch3)) :
    ((toV).view.loc (V d (cV L) (jV L)) ↦{fullShare} f : sProp 𝕄) = (V d (cV L) (jV L)).loc cc2_scratch3 ↦{fullShare} f := rfl

abbrev sem0 (d : Dev nD) (c : Fin τ.nSC) (i : Fin τ.nSub) : GSem nD τ sig := (V d c i, .dma cc2_scoped0.sem)
abbrev sem1 (d : Dev nD) (c : Fin τ.nSC) (i : Fin τ.nSub) : GSem nD τ sig := (V d c i, .dma cc2_scoped1.sem)
abbrev sem2 (d : Dev nD) (c : Fin τ.nSC) (i : Fin τ.nSub) : GSem nD τ sig := (V d c i, .dma cc2_scoped2.sem)
abbrev sem3 (d : Dev nD) (c : Fin τ.nSC) (i : Fin τ.nSub) : GSem nD τ sig := (V d c i, .dma cc2_scoped3.sem)

/-- The tile's other semaphores and buffers, which the call does not touch. -/
abbrev otherSems (d : Dev nD) (c : Fin τ.nSC) (i : Fin τ.nSub) : Finset (GSem nD τ sig) :=
  ((((ownCells (V d c i)).erase (sem0 d c i)).erase (sem1 d c i)).erase (sem2 d c i)).erase (sem3 d c i)
abbrev otherBufs (c : Fin τ.nSC) (i : Fin τ.nSub) : Finset (DevRef τ sig) :=
  ((((ownRefs (τ := τ) (.scVector c i)).erase ((Proc.scVector c i).devRef cc2_scratch0)).erase
      ((Proc.scVector c i).devRef cc2_scratch1)).erase ((Proc.scVector c i).devRef cc2_scratch2)).erase ((Proc.scVector c i).devRef cc2_scratch3)

theorem own_sem (c : Fin τ.nSC) (i : Fin τ.nSub) (s : DmaSem sig) : ((V d c i, .dma s) : GSem nD τ sig) ∈ ownCells (V d c i) :=
  mem_ownCells.mpr ⟨rfl, by show (SemLoc.dma s : SemLoc sig).isScoped .scVector = true; revert s; decide⟩
theorem sem_ne (c : Fin τ.nSC) (i : Fin τ.nSub) {s s' : DmaSem sig} (h : s ≠ s') : ((V d c i, .dma s) : GSem nD τ sig) ≠ (V d c i, .dma s') :=
  fun e => h (SemLoc.dma.inj (congrArg Prod.snd e))
theorem own_buf (c : Fin τ.nSC) (i : Fin τ.nSub) (b : Ref sig .scVector) (h : ((Proc.scVector c i).devRef b : DevRef τ sig).owner = .proc (.scVector c i)) :
    (Proc.scVector c i).devRef b ∈ ownRefs (τ := τ) (sig := sig) (.scVector c i) := SparseCore.Cfg.mem_ownRefs_of_owner h
theorem buf_ne (c : Fin τ.nSC) (i : Fin τ.nSub) {b b' : Ref sig .scVector} (h : b ≠ b') :
    ((Proc.scVector c i).devRef b : DevRef τ sig) ≠ (Proc.scVector c i).devRef b' := fun e => h (Proc.devRef_injective _ e)

/-- The four semaphores of the tile's copies are among its own. -/
theorem ownSems0_V (c : Fin τ.nSC) (i : Fin τ.nSub) :
    (ownSems0 (V d c i) : sProp 𝕄)
      = iprop(semVal (sem0 d c i) 0 ∗ semVal (sem1 d c i) 0 ∗ semVal (sem2 d c i) 0 ∗ semVal (sem3 d c i) 0
          ∗ bigSep (otherSems d c i) fun g => semVal g 0) := by
  unfold SparseCore.Cfg.ownSems0
  rw [SparseCore.bigSep_erase' (own_sem d c i cc2_scoped0.sem),
    SparseCore.bigSep_erase' (i := sem1 d c i) (Finset.mem_erase.mpr ⟨sem_ne d c i (by decide), own_sem d c i _⟩),
    SparseCore.bigSep_erase' (i := sem2 d c i) (Finset.mem_erase.mpr ⟨sem_ne d c i (by decide), Finset.mem_erase.mpr ⟨sem_ne d c i (by decide), own_sem d c i _⟩⟩),
    SparseCore.bigSep_erase' (i := sem3 d c i) (Finset.mem_erase.mpr ⟨sem_ne d c i (by decide), Finset.mem_erase.mpr ⟨sem_ne d c i (by decide),
      Finset.mem_erase.mpr ⟨sem_ne d c i (by decide), own_sem d c i _⟩⟩⟩)]

/-- The four scratch buffers are among the tile's own. -/
theorem ownBufs_V (c : Fin τ.nSC) (i : Fin τ.nSub) :
    (ownBufs (V d c i) : sProp 𝕄)
      = iprop((∃ f, (V d c i).loc cc2_scratch0 ↦{fullShare} f) ∗ (∃ f, (V d c i).loc cc2_scratch1 ↦{fullShare} f)
          ∗ (∃ f, (V d c i).loc cc2_scratch2 ↦{fullShare} f) ∗ (∃ f, (V d c i).loc cc2_scratch3 ↦{fullShare} f)
          ∗ bigSep (otherBufs c i) fun b => iprop(∃ f, ((d, b) : Loc nD τ sig) ↦{fullShare} f)) := by
  unfold SparseCore.Cfg.ownBufs
  refine (SparseCore.bigSep_erase' (own_buf c i cc2_scratch0 rfl)).trans ?_
  rw [SparseCore.bigSep_erase' (i := (Proc.scVector c i).devRef cc2_scratch1) (Finset.mem_erase.mpr ⟨buf_ne c i (by decide), own_buf c i _ rfl⟩),
    SparseCore.bigSep_erase' (i := (Proc.scVector c i).devRef cc2_scratch2) (Finset.mem_erase.mpr ⟨buf_ne c i (by decide), Finset.mem_erase.mpr ⟨buf_ne c i (by decide), own_buf c i _ rfl⟩⟩),
    SparseCore.bigSep_erase' (i := (Proc.scVector c i).devRef cc2_scratch3) (Finset.mem_erase.mpr ⟨buf_ne c i (by decide), Finset.mem_erase.mpr ⟨buf_ne c i (by decide),
      Finset.mem_erase.mpr ⟨buf_ne c i (by decide), own_buf c i _ rfl⟩⟩⟩)]

/-- A load of all sixteen lanes of a scratch buffer reads its contents. -/
theorem read_tv (f : FVec F S16 .f32) : View.readAt (Elt F) (tvV).view (Rect.unit (s := S16) ![0] ![16] inb_S16_S16_0).toLoadRect f = f := by
  funext x
  exact congrArg f (funext fun a => Fin.ext (by match a with | ⟨0, _⟩ => exact (Nat.zero_add _).trans (Nat.one_mul _)))
theorem read_tq (f : IVec S16 32) : View.readAt (Elt F) (tqV).view (Rect.unit (s := S16) ![0] ![16] inb_S16_S16_0).toLoadRect f = f := by
  funext x
  exact congrArg f (funext fun a => Fin.ext (by match a with | ⟨0, _⟩ => exact (Nat.zero_add _).trans (Nat.one_mul _)))

theorem read_tr (f : FVec F S160 .f32) : View.read (Elt F) ((trV).access (.whole S160)) f = f := by
  funext x
  exact congrArg f (Rect.emb_whole_apply S160 x)

/-- The check the tile makes of the query numbers it copied passes when they are in range. -/
theorem chk_of_inRange (hA : InRange A) (w : IVec S16 32) (hw : w = fun x => A.q d (at16 L x)) : k2_chk1 L w := by
  subst hw
  intro _ a x
  match a with
  | ⟨0, _⟩ => exact hA d _

/-- Looking the row's ratios up at the query numbers copied, lane by lane. -/
theorem lookup_eq (w : IVec S16 32) (hw : w = fun x => A.q d (at16 L x)) (g : FVec F S160 .f32) (hg : g = fun x => A.r d (at160 L x))
    (hlt : ∀ a x, ((![w] : Fin 1 → IVec S16 32) a x).toNat < S160.size a) :
    (loadIdx (F := F) (e := .f32) g ![w] hlt : FVec F S16 .f32) = fun x => A.r d (ratioIx (cL L) (A.q d (at16 L x))) := by
  subst hw hg
  funext x
  refine congrArg (A.r d) (funext fun a => Fin.ext ?_)
  match a with
  | ⟨0, _⟩ => rfl
  | ⟨1, _⟩ => rfl
  | ⟨2, _⟩ =>
    have h' : (A.q d (at16 L x)).toNat < 160 := hlt 0 x
    exact (Nat.mod_eq_of_lt h').symm

/-- What the tile copies out is its part of the rescored array. -/
theorem write_oK (fo : Buf (Elt F) (oLoc d)) (w : FVec F S16 .f32) (hw : w = fun x => rescored A d (at16 L x)) :
    ∀ j ∈ (oK L h).view.set, (oK L h).view.writes (Elt F) fo [⟨Rect.whole S16, w⟩] j = rescored A d j := by
  subst hw
  intro j hj
  obtain ⟨x, rfl⟩ := View.exists_emb_of_mem_set _ hj
  have e : ((oK L h).view.slice (Rect.whole S16)).emb x = (oK L h).view.emb x := congrArg (oK L h).view.emb (Rect.emb_whole_apply S16 x)
  rw [View.writes_singleton, ← e, View.write_emb_of_mem _ _ (Finset.mem_univ x), e]
  exact congrArg (rescored A d) (emb_oK L h x).symm

/-- What the tile stored in its scratch, read back. -/
theorem read_to (fo : FVec F S16 .f32) (w : FVec F S16 .f32) :
    View.read (Elt F) (toV).view ((toV).view.writes (Elt F) fo [⟨Rect.unit (s := S16) ![0] ![16] inb_S16_S16_0, w⟩]) = w := by
  funext x
  exact View.read_writes_cons_hit (Val := Elt F) (toV).view fo (Rect.unit (s := S16) ![0] ![16] inb_S16_S16_0) w [] x x (funext fun a => Fin.ext (by match a with | ⟨0, _⟩ => exact (Nat.zero_add _).trans (Nat.one_mul _)))

set_option maxHeartbeats 4000000 in
/-- A working tile, from its part of the call's arrays: it brings them back with its entries rescored. -/
theorem tile_works (hF : (K (F := F)).Facts) (hA : InRange A) (O : CellTallies nD τ sig (HIx 1)) (W : Waits sig (HIx 1)) (hO : ∀ g, O g none = 0)
    (h : k2_cond1 L = 1#1) :
    iprop(levAts (K (F := F)).L (K (F := F)).lev ∗ emp
        ∗ tileHolds A d (cL L) (jL L) (A.o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_kernel L vV (Memref.isWhole_whole _) qV (Memref.isWhole_whole _) rV (Memref.isWhole_whole _) oV (Memref.isWhole_whole _)
            tvV (Memref.isWhole_whole _) tqV (Memref.isWhole_whole _) trV (Memref.isWhole_whole _) toV (Memref.isWhole_whole _)
            cc2_scoped0 cc2_scoped1 cc2_scoped2 cc2_scoped3)
          fun _ => iprop(tileHolds A d (cL L) (jL L) (rescored A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_sc_kernel_eq_skeleton]; unfold cc2_sc_kernel_skel
  rw [(K (F := F)).scopedBufs_V hF d (cV L) (jV L), SparseCore.Cfg.scopedSems0_V (Val := Elt F) d (cV L) (jV L), ownSems0_V, ownBufs_V]
  simp only [h, ↓reduceDIte]
  iintro ⟨#Hlv, -, ⟨⟨Hv, Hq, Hr⟩, Ho⟩, ⟨⟨%fv, Htv⟩, ⟨%fq, Htq⟩, ⟨%fr, Htr⟩, ⟨%fo, Hto⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oK (F := F) d L h _).symm) $$ Ho
  ihave Hv' := (Entails.of_eq (pts_vV (F := F) d L _ _).symm) $$ Hv
  ihave Hq' := (Entails.of_eq (pts_qV (F := F) d L _ _).symm) $$ Hq
  ihave Hr' := (Entails.of_eq (pts_rV (F := F) d L _ _).symm) $$ Hr
  ihave Htv' := (Entails.of_eq (pts_tvV (F := F) d L _).symm) $$ Htv
  ihave Htq' := (Entails.of_eq (pts_tqV (F := F) d L _).symm) $$ Htq
  ihave Htr' := (Entails.of_eq (pts_trV (F := F) d L _).symm) $$ Htr
  ihave Hto' := (Entails.of_eq (pts_toV (F := F) d L _).symm) $$ Hto
  sl_exec
  have hw : tile_works.sl.v4 A d L h fq = fun x => A.q d (at16 L x) := by
    unfold tile_works.sl.v4 tile_works.sl.dma0_1
    exact (congrArg _ (View.write_whole_univ _ _ _)).trans ((read_tq _).trans (read_qK L h _))
  rw [wp_assume_of _ _ _ _ (chk_of_inRange A d L hA _ hw)]
  ihave Htr2 := (Entails.of_eq (show ((trV).view.loc (V d (cV L) (jV L)) ↦{fullShare} _ : sProp 𝕄)
      = ((trV).access (.whole S160)).loc (V d (cV L) (jV L)) ↦{fullShare} _ from rfl)) $$ Htr'
  iapply (SparseCore.wp_vectorLoadIdx 𝒱₀ (V d (cV L) (jV L)) none Set.univ (base := (trV : Memref sig .scVector .vmem S160 .f32)) (S := Finset.univ) (q := fullShare) (Finset.subset_univ _)) $$ Htr2; iintro Htr2
  sl_exec
  have hp : tile_works.sl.dma3 A d L hA h fv fq fr fo hw = fun x => rescored A d (at16 L x) := by
    unfold tile_works.sl.dma3 tile_works.sl.Hto'_1
    have hr : View.read (Elt F) ((trV).access (.whole S160)) (View.write (Elt F) (trV).view fr (tile_works.sl.dma0_2 A d L h) Finset.univ)
        = fun x => A.r d (at160 L x) := by
      unfold tile_works.sl.dma0_2
      exact (congrArg _ (View.write_whole_univ _ _ _)).trans ((read_tr _).trans (read_rK L h _))
    have hv : tile_works.sl.v6 A d L h fv = fun x => A.v d (at16 L x) := by
      unfold tile_works.sl.v6 tile_works.sl.dma0
      exact (congrArg _ (View.write_whole_univ _ _ _)).trans ((read_tv _).trans (read_vK L h _))
    refine (read_to _ _).trans ?_
    rw [k2_pay1, hv]
    refine (congrArg (mulf _) (lookup_eq A d L _ hw _ hr _)).trans ?_
    rfl
  sl_step
  isplitl [Hv' Hq' Hr' Ho']
  · isplitl [Hv' Hq' Hr']
    · isplitl [Hv']; · iexact Hv'
      isplitl [Hq']; · iexact Hq'
      iexact Hr'
    · iapply (Entails.of_eq ((pointsTo_congr (write_oK A d L h (A.o d) _ hp)).trans (pts_oK (F := F) d L h _))); iexact Ho'
  isplitl [Htv' Htq' Htr2 Hto' Hbufs]
  · isplitl [Htv']; · iexists _; iexact Htv'
    isplitl [Htq']; · iexists _; iexact Htq'
    isplitl [Htr2]; · iexists _; iexact Htr2
    isplitl [Hto']; · iexists _; iexact Hto'
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- A tile from the ninth on has no entries. -/
theorem oTile_idle (h : ¬k2_cond1 L = 1#1) : oTile (cL L).val (jL L).val = ∅ := by
  have hL : ¬(L 1).val < 8 := fun e => h ((works_iff L).mpr e)
  refine Finset.filter_eq_empty_iff.mpr ?_
  rintro j - ⟨-, e⟩
  have : (j 1).val < 128 := (j 1).isLt
  have e' : (j 1).val / 16 = (L 1).val := e
  omega

/-- An idle tile brings its part back as it is: it has no entries to rescore. -/
theorem tile_idle (O : CellTallies nD τ sig (HIx 1)) (W : Waits sig (HIx 1)) (h : ¬k2_cond1 L = 1#1) :
    iprop(levAts (K (F := F)).L (K (F := F)).lev ∗ emp
        ∗ tileHolds A d (cL L) (jL L) (A.o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_kernel L vV (Memref.isWhole_whole _) qV (Memref.isWhole_whole _) rV (Memref.isWhole_whole _) oV (Memref.isWhole_whole _)
            tvV (Memref.isWhole_whole _) tqV (Memref.isWhole_whole _) trV (Memref.isWhole_whole _) toV (Memref.isWhole_whole _)
            cc2_scoped0 cc2_scoped1 cc2_scoped2 cc2_scoped3)
          fun _ => iprop(tileHolds A d (cL L) (jL L) (rescored A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_sc_kernel_eq_skeleton]; unfold cc2_sc_kernel_skel
  simp only [h, ↓reduceDIte]
  iintro ⟨-, -, ⟨Hr, Ho⟩, Hb, Hs, HO⟩
  sl_exec
  sl_step
  isplitl [Hr Ho]
  · isplitl [Hr]; · iexact Hr
    iapply (Entails.of_eq (pointsTo_congr (f := A.o d) (g := rescored A d) fun j hj => by rw [oTile_idle L h] at hj; exact absurd hj (Finset.notMem_empty j))); iexact Ho
  isplitl [Hb]; · iexact Hb
  isplitl [Hs]; · iexact Hs
  iexists W; isplitr
  swap; · iexact HO
  ipureintro; exact fun p hp => .inl hp

/-- A tile of either kind, from its part of the call's arrays: it brings them back with its entries rescored. -/
theorem tile_body (hF : (K (F := F)).Facts) (hA : InRange A) (O : CellTallies nD τ sig (HIx 1)) (W : Waits sig (HIx 1)) (hO : ∀ g, O g none = 0) :
    iprop(levAts (K (F := F)).L (K (F := F)).lev ∗ emp
        ∗ tileHolds A d (cL L) (jL L) (A.o d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_kernel L vV (Memref.isWhole_whole _) qV (Memref.isWhole_whole _) rV (Memref.isWhole_whole _) oV (Memref.isWhole_whole _)
            tvV (Memref.isWhole_whole _) tqV (Memref.isWhole_whole _) trV (Memref.isWhole_whole _) toV (Memref.isWhole_whole _)
            cc2_scoped0 cc2_scoped1 cc2_scoped2 cc2_scoped3)
          fun _ => iprop(tileHolds A d (cL L) (jL L) (rescored A d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k2_cond1 L = 1#1
  · exact tile_works A d L hF hA O W hO h
  · exact tile_idle A d L O W h

/-! ## The tiles' obligation to the launch -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_sc_kernel (coordsV c s)
          vV (Memref.isWhole_whole _) qV (Memref.isWhole_whole _) rV (Memref.isWhole_whole _) oV (Memref.isWhole_whole _)
          tvV (Memref.isWhole_whole _) tqV (Memref.isWhole_whole _) trV (Memref.isWhole_whole _) toV (Memref.isWhole_whole _)
          cc2_scoped0 cc2_scoped1 cc2_scoped2 cc2_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its part. -/
theorem tileObl (hF : (K (F := F)).Facts) (hA : InRange A) : (K (F := F)).TileObl (D (F := F)) 𝒱 (P A) v₀ 0 := by
  intro d c i O W hO _ _
  simp only [show (P A).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF hA O W hO).trans (wp_mono frame _ _ fun _ => obl_post)

end Tile

/-! ## The arrays are dealt out and come back -/

section Deal

variable (A : Arrays F) (d : Dev nD)

theorem reads_shares (s : PosShare TreeShare) (n : ℕ) :
    (reads A d s : sProp 𝕄) = bigSep Finset.univ fun i : Fin (2 ^ n) => reads A d (leaf n s i) := by
  unfold reads
  rw [bigSep_sep', bigSep_sep', ← pointsTo_leaves, ← pointsTo_leaves, ← pointsTo_leaves]

theorem oCore_tiles (c : Fin 2) (f : Buf (Elt F) (oLoc d)) :
    (oLoc d ↦[oCore c.val]{fullShare} f : sProp 𝕄) = bigSep Finset.univ fun i : Fin 16 => oLoc d ↦[oTile c.val i.val]{fullShare} f := by
  rw [← pointsTo_biUnion Finset.univ (ℓ := oLoc d) (fun i : Fin 16 => oTile c.val i.val)]
  · congr 1
    ext j
    have hj : (j 1).val < 128 := (j 1).isLt
    simp only [oCore, oTile, Finset.mem_filter, Finset.mem_univ, true_and, Finset.mem_biUnion]
    exact ⟨fun e => ⟨⟨(j 1).val / 16, by omega⟩, e, rfl⟩, fun ⟨_, e, _⟩ => e⟩
  · intro i _ i' _ hne
    refine Finset.disjoint_left.mpr fun j hj hj' => hne (Fin.ext ?_)
    exact (Finset.mem_filter.mp hj).2.2.symm.trans (Finset.mem_filter.mp hj').2.2

theorem oCore_cover : (Finset.univ.biUnion fun c : Fin 2 => oCore c.val) = Finset.univ :=
  Finset.eq_univ_of_forall fun j => Finset.mem_biUnion.mpr ⟨(j 0 : Fin 2), Finset.mem_univ _, Finset.mem_filter.mpr ⟨Finset.mem_univ _, rfl⟩⟩

theorem o_cores (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val), oCore_cover]
  intro i _ i' _ hne
  refine Finset.disjoint_left.mpr fun j hj hj' => hne (Fin.ext ?_)
  exact (Finset.mem_filter.mp hj).2.symm.trans (Finset.mem_filter.mp hj').2

/-- What a SparseCore holds is what its sixteen tiles hold. -/
theorem core_tiles (c : Fin 2) (f : Buf (Elt F) (oLoc d)) :
    (coreHolds A d c f : sProp 𝕄) = bigSep Finset.univ fun i : Fin 16 => tileHolds A d c i f := by
  unfold coreHolds tileHolds
  rw [bigSep_sep', ← oCore_tiles]
  exact congrArg (fun R : sProp 𝕄 => iprop(R ∗ oLoc d ↦[oCore c.val]{fullShare} f)) (reads_shares A d (shCore c) 4)

/-- The call's arrays are what the two SparseCores hold. -/
theorem arrays_cores (f : Buf (Elt F) (oLoc d)) :
    (iprop(reads A d fullShare ∗ oLoc d ↦{fullShare} f) : sProp 𝕄) = bigSep Finset.univ fun c : Fin 2 => coreHolds A d c f := by
  unfold coreHolds
  rw [bigSep_sep', ← o_cores]
  exact congrArg (fun R : sProp 𝕄 => iprop(R ∗ oLoc d ↦{fullShare} f)) (reads_shares A d fullShare 1)

theorem vecSplit : (K (F := F)).VecSplit' (P A) 0 := by
  intro d c
  show (coreHolds A d (Fin.cast nCore_zero c) (A.o d) : sProp 𝕄) ⊢ |={Set.univ}=> iprop(
      (bigSep Finset.univ fun i : Fin 16 => tileHolds A d (Fin.cast nCore_zero c) i (A.o d))
      ∗ ((bigSep Finset.univ fun i : Fin 16 => tileHolds A d (Fin.cast nCore_zero c) i (rescored A d))
          -∗ coreHolds A d (Fin.cast nCore_zero c) (rescored A d)))
  rw [← core_tiles, ← core_tiles]
  iintro H; imodintro
  isplitl [H]; · iexact H
  iintro H; iexact H

/-- What the call takes, and what it brings back. -/
theorem st0_eq : (bigSep Finset.univ fun c : Fin ((K (F := F)).nCore 0) => (P A).st 0 d c) = iprop(reads A d fullShare ∗ oLoc d ↦{fullShare} A.o d) :=
  (arrays_cores A d (A.o d)).symm
theorem dn0_eq : (bigSep Finset.univ fun c : Fin ((K (F := F)).nCore 0) => (P A).dn 0 d c) = iprop(reads A d fullShare ∗ oLoc d ↦{fullShare} rescored A d) :=
  (arrays_cores A d (rescored A d)).symm

end Deal

/-! ## The launch element of the ghost state -/

/-- The pipelines of the two TensorCore calls prefetch no table. -/
abbrev adm : (p : Fin 2) → (pcfgs (F := F) p).Adm := fun p => (cfgs p).toPCfg_adm

def u₀ : UU := ((initOf (K (F := F)).hsCells (K (F := F)).hsToks, initOf (Pipeline.cells cfgs cellOf_inj) (Pipeline.launchToks cfgs cellOf_inj)), 1)

theorem bigSep_emp' {I : Type} (s : Finset I) : (bigSep s fun _ => iprop(emp)) = (iprop(emp) : sProp 𝕄) := bigSep_emp_const s

/-- What device `d`'s TensorCore is given for the two TensorCore calls: their staging cells' ghost state. -/
abbrev ghost (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

theorem two (Φ : Fin 2 → sProp 𝕄) : bigSep Finset.univ Φ = iprop(Φ 0 ∗ Φ 1) := bigSep_univ_eq_bigSepL [(0 : Fin 2), 1] (by decide) (by decide) Φ

theorem hu₀ (A : Arrays F) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P A).x q thr) := by
  unfold u₀
  iintro Hu
  ihave H := (ownU_pair (initOf (K (F := F)).hsCells (K (F := F)).hsToks, initOf (Pipeline.cells cfgs cellOf_inj) (Pipeline.launchToks cfgs cellOf_inj)) (1 : Counters)) $$ Hu
  icases H with ⟨HA, -⟩
  ihave H := (own_pair_emb (embL : Emb (UH × UR sig nD τ) 𝕄) (initOf (K (F := F)).hsCells (K (F := F)).hsToks)
    (initOf (Pipeline.cells cfgs cellOf_inj) (Pipeline.launchToks cfgs cellOf_inj))) $$ HA
  icases H with ⟨HH, HP⟩
  imod (Pipeline.fund_ghost cfgs (EP (F := F)) cellOf_inj) $$ HP with ⟨Hg, Ht⟩
  imodintro
  isplitl [HH]; · iexact HH
  isplitl [Hg Ht]
  · iapply (show iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
        ⊢ bigSep Finset.univ fun d : Dev nD => ghost (F := F) d from by
      rw [← bigSep_sep']
      refine bigSep_mono fun c _ => ?_
      · rw [two, two]
        change iprop((Pipeline.cellsGhost cfgs (EP (F := F)) 0 c ∗ Pipeline.cellsGhost cfgs (EP (F := F)) 1 c)
          ∗ Pipeline.toksInit cfgs (EP (F := F)) 0 c ∗ Pipeline.toksInit cfgs (EP (F := F)) 1 c)
          ⊢ iprop((Pipeline.cellsGhost (Pipeline.pin (pcfgs (F := F)) adm) EP 0 c ∗ Pipeline.toksInit (Pipeline.pin (pcfgs (F := F)) adm) EP 0 c)
            ∗ (Pipeline.cellsGhost (Pipeline.pin (pcfgs (F := F)) adm) EP 1 c ∗ Pipeline.toksInit (Pipeline.pin (pcfgs (F := F)) adm) EP 1 c))
        iintro ⟨⟨Ha, Hb⟩, Hc, Hd⟩
        isplitl [Ha Hc]
        · isplitl [Ha]; · iexact Ha
          iexact Hc
        isplitl [Hb]; · iexact Hb
        iexact Hd)
    isplitl [Hg]; · iexact Hg
    iexact Ht
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), bigSep_emp']
  iempintro

end Cert.Proof.Sc

end
-- ==== Proof.Topk.lean ====
module

public import proofs.«01_k».proof.Proof.Gen.KernelIdeal.Launch
public import proofs.«01_k».proof.Proof.Gen.KernelIdeal.Points
public import proofs.«01_k».proof.Proof.Gen.KernelIdeal.Loops
public import Idealize.ShloMosaic.Lib.Tactic
public import Idealize.ShloMosaic.Lib.VecWindow
public import Idealize.ShloMosaic.Lib.Pipeline.ValueKit.Basic

@[expose] public section

noncomputable section

namespace Cert.Proof.Topk

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Run

variable {Ix : Type} [DecidableEq Ix] {U : Type} [URA U]

local notation "𝕄" => MT nD τ sig Ix (Elt F) ℕ U ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- One trip of the selection loop, as a function of what it carries. -/
def trip (v13 : IVec S1x150x1 32) (v14 : IVec S1x1x150 32) (v15 : IVec S1x1x128 32) (k : Fin k0_t1_loop.trips)
    (a : FVec F S2x150x150 .f32 × FVec F S2x1x150 .f32 × IVec S2x1x150 32 × FVec F S2x1x128 .f32 × IVec S2x1x128 32) :
    FVec F S2x150x150 .f32 × FVec F S2x1x150 .f32 × IVec S2x1x150 32 × FVec F S2x1x128 .f32 × IVec S2x1x128 32 :=
  (k0_pay9 v13 v14 a.1 (k0_pay3 v14 a.2.1 a.2.2.1) (k0_pay6 v14 a.2.1 a.2.2.1) 150#32 (k0_pay7 v14 a.2.1 a.2.2.1) (k0_pay8 v14 a.2.1 a.2.2.1),
   k0_pay13 v13 v14 a.1 a.2.1 (k0_pay3 v14 a.2.1 a.2.2.1) (k0_pay6 v14 a.2.1 a.2.2.1) 150#32 (k0_pay7 v14 a.2.1 a.2.2.1) (k0_pay8 v14 a.2.1 a.2.2.1),
   k0_pay14 v13 v14 a.1 a.2.2.1 (k0_pay3 v14 a.2.1 a.2.2.1) (k0_pay6 v14 a.2.1 a.2.2.1) 150#32 (k0_pay7 v14 a.2.1 a.2.2.1) (k0_pay8 v14 a.2.1 a.2.2.1),
   k0_pay4 v15 0#32 1#32 k a.2.1 a.2.2.2.1,
   k0_pay5 v14 v15 0#32 1#32 k a.2.1 a.2.2.1 a.2.2.2.2)

set_option maxRecDepth 65536 in
/-- The loop's body returns its trip and has no effect. -/
theorem body_eq (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole)
    (v13 : IVec S1x150x1 32) (v14 : IVec S1x1x150 32) (v15 : IVec S1x1x128 32) :
    k0_t1_body (F := F) M0 h0 M1 h1 M2 h2 M3 h3 M4 h4 M5 h5 v13 v14 v15 = fun k a => .ret (trip v13 v14 v15 k a) := by
  funext k a
  unfold k0_t1_body
  rw [k0_part2_eq_skeleton]
  unfold k0_part2_skel
  rw [k0_part1_eq_skeleton]
  rfl

def run (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole)
    (f0 : Bf (F := F) c M0) :
    { W : Bf (F := F) c M1 × Bf (F := F) c M2 × Bf (F := F) c M3 × Bf (F := F) c M4 × Bf (F := F) c M5 //
      ∀ (f1 : Bf (F := F) c M1) (f2 : Bf (F := F) c M2) (f3 : Bf (F := F) c M3) (f4 : Bf (F := F) c M4) (f5 : Bf (F := F) c M5) (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 W.1 ∗ pt c M2 W.2.1 ∗ pt c M3 W.2.2.1 ∗ pt c M4 W.2.2.2.1 ∗ pt c M5 W.2.2.2.2) -∗ Q ⟨⟩))
          ⊢ wp frame (wpE (defs₀ (F := F)) Variants.none c none) E (cc0__topk_body M0 h0 M1 h1 M2 h2 M3 h3 M4 h4 M5 h5) Q } := by
  refine ⟨⟨?_, ?_, ?_, ?_, ?_⟩, fun f1 f2 f3 f4 f5 E Q => ?run⟩
  case run =>
    iintro ⟨H0, H1, H2, H3, H4, H5, Hk⟩
    rw [cc0__topk_body_eq_skeleton]
    unfold cc0__topk_body_skel
    rw [k0_part3_eq_skeleton, k0_part4_eq_skeleton]
    unfold k0_part3_skel k0_part4_skel
    simp only [body_eq, Prog.bind_assoc]
    sl_exec!
    sl_step
    iapply Hk
    isplitl [H0]; · iexact H0
    isplitl [H1]; · iexact H1
    isplitl [H2]; · iexact H2
    isplitl [H3]; · iexact H3
    isplitl [H4]; · iexact H4
    iexact H5

/-- A load of a whole buffer reads the buffer. -/
theorem readAt_full {sp : Space} {S : Shape} {e : EltTy} (v : View sig .tc sp S e) (f : v.ty.Contents (Elt F)) {off : Fin S.rank → ℕ}
    (inb : ∀ a, off a + S.size a ≤ S.size a) : v.readAt (Elt F) (Rect.unit off S.size inb).toLoadRect f = v.read (Elt F) f := by
  have h : off = fun _ => 0 := funext fun a => by have := inb a; omega
  exact View.ld_unit_zero h inb (v.read (Elt F) f)

/-- The three ramps of the body. -/
abbrev rampQ : IVec S1x150x1 32 := iota .tc S1x150x1 32 [1] iota_S1x150x1_d1_w32
abbrev rampC : IVec S1x1x150 32 := iota .tc S1x1x150 32 [2] iota_S1x1x150_d2_w32
abbrev rampK : IVec S1x1x128 32 := iota .tc S1x1x128 32 [2] iota_S1x1x128_d2_w32

/-- What the selection loop carries after its last trip. -/
def last (x : FVec F S2x150x151 .f32) :=
  Scf.fold (trip (F := F) rampQ rampC rampK) (k0_pay15 x, k0_pay17 x, k0_pay18 x, k0_pay19 (F := F), k0_pay20)

/-- The five arrays the selection kernel writes, of the logits. -/
def probsOf (x : FVec F S2x150x151 .f32) : FVec F S2x150x150 .f32 := k0_pay16 x
def valsOf (x : FVec F S2x150x151 .f32) : FVec F S2x128 .f32 := k0_pay21 (last x).2.2.2.1
def labelsOf (x : FVec F S2x150x151 .f32) : IVec S2x128 32 := k0_pay23 (Scalar.select (Scalar.cmpi .eq 150#32 0#32) 1#32 150#32) (k0_pay22 (last x).2.2.2.2)
def queriesOf (x : FVec F S2x150x151 .f32) : IVec S2x128 32 := k0_pay25 (last x).2.2.2.2
def onehotOf (x : FVec F S2x150x151 .f32) : FVec F S2x128x150 .f32 := k0_pay1 (F := F) (k0_pay24 (last x).2.2.2.2) (k0_pay26 rampK) rampQ

/-- The transposed scores written, read back. -/
theorem run_probs (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole) (f0 : Bf (F := F) c M0) :
    M1.view.read (Elt F) (run (Ix := Ix) (U := U) c M0 h0 M1 h1 M2 h2 M3 h3 M4 h4 M5 h5 f0).1.1 = probsOf (M0.view.read (Elt F) f0) := by
  unfold run
  dsimp only
  unfold run.sl.H1_1
  refine (View.read_writes_full M1.view _ _ _ _).trans ?_
  unfold probsOf
  rw [← readAt_full M0.view f0 inb_S2x150x151_S2x150x151_0_0_0]

/-- The selected scores written, read back. -/
theorem run_vals (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole) (f0 : Bf (F := F) c M0) :
    M2.view.read (Elt F) (run (Ix := Ix) (U := U) c M0 h0 M1 h1 M2 h2 M3 h3 M4 h4 M5 h5 f0).1.2.1 = valsOf (M0.view.read (Elt F) f0) := by
  unfold run
  dsimp only
  unfold run.sl.H2_1
  refine (View.read_writes_full M2.view _ _ _ _).trans ?_
  unfold valsOf
  rw [← readAt_full M0.view f0 inb_S2x150x151_S2x150x151_0_0_0]
  rfl

/-- The labels written, read back. -/
theorem run_labels (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole) (f0 : Bf (F := F) c M0) :
    M3.view.read (Elt F) (run (Ix := Ix) (U := U) c M0 h0 M1 h1 M2 h2 M3 h3 M4 h4 M5 h5 f0).1.2.2.1 = labelsOf (M0.view.read (Elt F) f0) := by
  unfold run
  dsimp only
  unfold run.sl.H3_1
  refine (View.read_writes_full M3.view _ _ _ _).trans ?_
  unfold labelsOf
  rw [← readAt_full M0.view f0 inb_S2x150x151_S2x150x151_0_0_0]
  rfl

/-- The query numbers written, read back. -/
theorem run_queries (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole) (f0 : Bf (F := F) c M0) :
    M4.view.read (Elt F) (run (Ix := Ix) (U := U) c M0 h0 M1 h1 M2 h2 M3 h3 M4 h4 M5 h5 f0).1.2.2.2.1 = queriesOf (M0.view.read (Elt F) f0) := by
  unfold run
  dsimp only
  unfold run.sl.H4_1
  refine (View.read_writes_full M4.view _ _ _ _).trans ?_
  unfold queriesOf
  rw [← readAt_full M0.view f0 inb_S2x150x151_S2x150x151_0_0_0]
  rfl

/-- The selection's one-hot rows written, read back. -/
theorem run_onehot (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole) (f0 : Bf (F := F) c M0) :
    M5.view.read (Elt F) (run (Ix := Ix) (U := U) c M0 h0 M1 h1 M2 h2 M3 h3 M4 h4 M5 h5 f0).1.2.2.2.2 = onehotOf (M0.view.read (Elt F) f0) := by
  unfold run
  dsimp only
  unfold run.sl.H5_1
  refine (View.read_writes_full M5.view _ _ _ _).trans ?_
  unfold onehotOf
  rw [← readAt_full M0.view f0 inb_S2x150x151_S2x150x151_0_0_0]
  rfl

/-- A run of the selection kernel: its five results are the five functions of the logits it reads. -/
theorem wp_body (c : Dev nD) (M0 : Memref sig .tc .vmem S2x150x151 .f32) (h0 : M0.IsWhole) (M1 : Memref sig .tc .vmem S2x150x150 .f32) (h1 : M1.IsWhole)
    (M2 : Memref sig .tc .vmem S2x128 .f32) (h2 : M2.IsWhole) (M3 : Memref sig .tc .vmem S2x128 .i32) (h3 : M3.IsWhole)
    (M4 : Memref sig .tc .vmem S2x128 .i32) (h4 : M4.IsWhole) (M5 : Memref sig .tc .vmem S2x128x150 .f32) (h5 : M5.IsWhole) (x : FVec F S2x150x151 .f32)
    (f0 : Bf (F := F) c M0) (hx : M0.view.read (Elt F) f0 = x) (f1 : Bf (F := F) c M1) (f2 : Bf (F := F) c M2) (f3 : Bf (F := F) c M3) (f4 : Bf (F := F) c M4)
    (f5 : Bf (F := F) c M5) (E : Set ℕ) (Q : PUnit → sProp 𝕄) :
    iprop(pt c M0 f0 ∗ pt c M1 f1 ∗ pt c M2 f2 ∗ pt c M3 f3 ∗ pt c M4 f4 ∗ pt c M5 f5
        ∗ (∀ g1 : Bf (F := F) c M1, ∀ g2 : Bf (F := F) c M2, ∀ g3 : Bf (F := F) c M3, ∀ g4 : Bf (F := F) c M4, ∀ g5 : Bf (F := F) c M5,
            ⌜M1.view.read (Elt F) g1 = probsOf x ∧ M2.view.read (Elt F) g2 = valsOf x ∧ M3.view.read (Elt F) g3 = labelsOf x
              ∧ M4.view.read (Elt F) g4 = queriesOf x ∧ M5.view.read (Elt F) g5 = onehotOf x⌝ -∗
            iprop(pt c M0 f0 ∗ pt c M1 g1 ∗ pt c M2 g2 ∗ pt c M3 g3 ∗ pt c M4 g4 ∗ pt c M5 g5) -∗ Q ⟨⟩))
      ⊢ wp frame (wpE (defs₀ (F := F)) Variants.none c none) E (cc0__topk_body M0 h0 M1 h1 M2 h2 M3 h3 M4 h4 M5 h5) Q := by
  subst hx
  iintro ⟨H0, H1, H2, H3, H4, H5, Hk⟩
  iapply (run (Ix := Ix) (U := U) c M0 h0 M1 h1 M2 h2 M3 h3 M4 h4 M5 h5 f0).2 f1 f2 f3 f4 f5 E Q
  isplitl [H0]; · iexact H0
  isplitl [H1]; · iexact H1
  isplitl [H2]; · iexact H2
  isplitl [H3]; · iexact H3
  isplitl [H4]; · iexact H4
  isplitl [H5]; · iexact H5
  iapply Hk $$ %_ %_ %_ %_ %_
  ipureintro
  exact ⟨run_probs c M0 h0 M1 h1 M2 h2 M3 h3 M4 h4 M5 h5 f0, run_vals c M0 h0 M1 h1 M2 h2 M3 h3 M4 h4 M5 h5 f0, run_labels c M0 h0 M1 h1 M2 h2 M3 h3 M4 h4 M5 h5 f0, run_queries c M0 h0 M1 h1 M2 h2 M3 h3 M4 h4 M5 h5 f0, run_onehot c M0 h0 M1 h1 M2 h2 M3 h3 M4 h4 M5 h5 f0⟩

end Run

end Cert.Proof.Topk
-- ==== Proof.Mega.lean ====
module

public import proofs.«01_k».proof.Proof.Topk

@[expose] public section

noncomputable section

namespace Cert.Proof.Mega

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Topk (Bf pt readAt_full)

variable {F : FTy → Type} [FloatOps F]

variable {Ix : Type} [DecidableEq Ix] {U : Type} [URA U]

local notation "𝕄" => MT nD τ sig Ix (Elt F) ℕ U ℕ

/-- The point is the first of its image; is a later one. -/
abbrev isFirst (i : grid1.Coords) : BitVec 1 := Scalar.cmpi .ne (Scalar.extui (Scalar.cmpi .eq (BitVec.ofNat 32 (i 1).val) 0#32)) 0#32
abbrev isLater (i : grid1.Coords) : BitVec 1 := Scalar.cmpi .ne (Scalar.extui (Scalar.cmpi .sgt (BitVec.ofNat 32 (i 1).val) 0#32)) 0#32

theorem isFirst_iff : ∀ i : grid1.Coords, isFirst i = 1#1 ↔ (i 1).val = 0 := by decide +kernel
theorem isLater_iff : ∀ i : grid1.Coords, isLater i = 1#1 ↔ (i 1).val ≠ 0 := by decide +kernel
theorem isLast_iff : ∀ i : grid1.Coords, k1_cond3 i = 1#1 ↔ (i 1).val = 11 := by decide +kernel

/-- The body at the first point of an image: the running sums are set. -/
def runFirst (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : isFirst i = 1#1) (k1_h2 : ¬isLater i = 1#1) (k1_h3 : ¬k1_cond3 i = 1#1)
    (f2 : Bf (F := F) c M2) (f3 : Bf (F := F) c M3) (f4 : Bf (F := F) c M4)  :
    { W : Bf (F := F) c M5 × Bf (F := F) c M6 × Bf (F := F) c M8 × Bf (F := F) c M9 //
      ∀ (f8 : Bf (F := F) c M8) (f9 : Bf (F := F) c M9) (f5 : Bf (F := F) c M5) (f6 : Bf (F := F) c M6) (f7 : Bf (F := F) c M7) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9
            ∗ (iprop(pt c M2 f2 ∗ pt c M3 f3 ∗ pt c M4 f4 ∗ pt c M5 W.1 ∗ pt c M6 W.2.1 ∗ pt c M7 f7 ∗ pt c M8 W.2.2.1 ∗ pt c M9 W.2.2.2) -∗ Q ⟨⟩))
          ⊢ wp frame (wpE (defs₀ (F := F)) Variants.none c none) E (cc1__mega_body i M2 h2 M3 h3 M4 h4 M5 h5 M6 h6 M7 h7 M8 h8 M9 h9) Q } := by
  refine ⟨⟨?_, ?_, ?_, ?_⟩, fun f8 f9 f5 f6 f7 E Q => ?run⟩
  case run =>
    iintro ⟨H2, H3, H4, H5, H6, H7, H8, H9, Hk⟩
    rw [cc1__mega_body_eq_skeleton]
    unfold cc1__mega_body_skel
    rw [k1_part1_eq_skeleton]
    unfold k1_part1_skel
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body at a middle point: the running sums are added to. -/
def runMid (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : ¬k1_cond3 i = 1#1)
    (f2 : Bf (F := F) c M2) (f3 : Bf (F := F) c M3) (f4 : Bf (F := F) c M4) (f8 : Bf (F := F) c M8) (f9 : Bf (F := F) c M9) :
    { W : Bf (F := F) c M5 × Bf (F := F) c M6 × Bf (F := F) c M8 × Bf (F := F) c M9 //
      ∀ (f5 : Bf (F := F) c M5) (f6 : Bf (F := F) c M6) (f7 : Bf (F := F) c M7) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9
            ∗ (iprop(pt c M2 f2 ∗ pt c M3 f3 ∗ pt c M4 f4 ∗ pt c M5 W.1 ∗ pt c M6 W.2.1 ∗ pt c M7 f7 ∗ pt c M8 W.2.2.1 ∗ pt c M9 W.2.2.2) -∗ Q ⟨⟩))
          ⊢ wp frame (wpE (defs₀ (F := F)) Variants.none c none) E (cc1__mega_body i M2 h2 M3 h3 M4 h4 M5 h5 M6 h6 M7 h7 M8 h8 M9 h9) Q } := by
  refine ⟨⟨?_, ?_, ?_, ?_⟩, fun f5 f6 f7 E Q => ?run⟩
  case run =>
    iintro ⟨H2, H3, H4, H5, H6, H7, H8, H9, Hk⟩
    rw [cc1__mega_body_eq_skeleton]
    unfold cc1__mega_body_skel
    rw [k1_part1_eq_skeleton]
    unfold k1_part1_skel
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body at the last point of an image: the running sums are added to and the ratios written. -/
def runLast (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : k1_cond3 i = 1#1)
    (f2 : Bf (F := F) c M2) (f3 : Bf (F := F) c M3) (f4 : Bf (F := F) c M4) (f8 : Bf (F := F) c M8) (f9 : Bf (F := F) c M9) :
    { W : Bf (F := F) c M5 × Bf (F := F) c M6 × Bf (F := F) c M8 × Bf (F := F) c M9 × Bf (F := F) c M7 //
      ∀ (f5 : Bf (F := F) c M5) (f6 : Bf (F := F) c M6) (f7 : Bf (F := F) c M7) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9
            ∗ (iprop(pt c M2 f2 ∗ pt c M3 f3 ∗ pt c M4 f4 ∗ pt c M5 W.1 ∗ pt c M6 W.2.1 ∗ pt c M7 W.2.2.2.2 ∗ pt c M8 W.2.2.1 ∗ pt c M9 W.2.2.2.1) -∗ Q ⟨⟩))
          ⊢ wp frame (wpE (defs₀ (F := F)) Variants.none c none) E (cc1__mega_body i M2 h2 M3 h3 M4 h4 M5 h5 M6 h6 M7 h7 M8 h8 M9 h9) Q } := by
  refine ⟨⟨?_, ?_, ?_, ?_, ?_⟩, fun f5 f6 f7 E Q => ?run⟩
  case run =>
    iintro ⟨H2, H3, H4, H5, H6, H7, H8, H9, Hk⟩
    rw [cc1__mega_body_eq_skeleton]
    unfold cc1__mega_body_skel
    rw [k1_part1_eq_skeleton]
    unfold k1_part1_skel
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The two arrays a point writes, of the blocks it reads. -/
def semBlk (x : FVec F S1x150x32x384 .f32) (y : FVec F S1x150x150 .f32) : FVec F S1x150x32x384 .f32 := k1_pay11 x y
def instBlk (x : FVec F S1x150x32x384 .f32) (z : FVec F S1x128x150 .f32) : FVec F S1x100x32x384 .f32 := k1_pay12 x z

/-- The running sums after point `n` of an image, of its mask block and the sums before. -/
def sumN (n : ℕ) (x : FVec F S1x150x32x384 .f32) (a : FVec F S150x1 .f32) : FVec F S150x1 .f32 :=
  if n = 0 then k1_pay3 (k1_pay13 x) else k1_pay5 (k1_pay13 x) a
def sumD (n : ℕ) (x : FVec F S1x150x32x384 .f32) (a : FVec F S150x1 .f32) : FVec F S150x1 .f32 :=
  if n = 0 then k1_pay4 (k1_pay10 x) else k1_pay6 (k1_pay10 x) a

/-- The row of ratios, of the two sums. -/
def ratioRow (a b : FVec F S150x1 .f32) : FVec F S1x1x160 .f32 := k1_pay7 a b

theorem semFirst (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : isFirst i = 1#1) (k1_h2 : ¬isLater i = 1#1) (k1_h3 : ¬k1_cond3 i = 1#1)
    (f2 : Bf (F := F) c M2) (f3 : Bf (F := F) c M3) (f4 : Bf (F := F) c M4)  :
    M5.view.read (Elt F) (runFirst (Ix := Ix) (U := U) c i M2 h2 M3 h3 M4 h4 M5 h5 M6 h6 M7 h7 M8 h8 M9 h9 k1_h1 k1_h2 k1_h3 f2 f3 f4).1.1 = semBlk (M2.view.read (Elt F) f2) (M3.view.read (Elt F) f3) := by
  unfold runFirst
  dsimp only
  unfold runFirst.sl.H5_1
  refine (View.read_writes_full M5.view _ _ _ _).trans ?_
  unfold semBlk
  rw [← readAt_full M2.view f2 inb_S1x150x32x384_S1x150x32x384_0_0_0_0, ← readAt_full M3.view f3 inb_S1x150x150_S1x150x150_0_0_0]

theorem instFirst (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : isFirst i = 1#1) (k1_h2 : ¬isLater i = 1#1) (k1_h3 : ¬k1_cond3 i = 1#1)
    (f2 : Bf (F := F) c M2) (f3 : Bf (F := F) c M3) (f4 : Bf (F := F) c M4)  :
    M6.view.read (Elt F) (runFirst (Ix := Ix) (U := U) c i M2 h2 M3 h3 M4 h4 M5 h5 M6 h6 M7 h7 M8 h8 M9 h9 k1_h1 k1_h2 k1_h3 f2 f3 f4).1.2.1 = instBlk (M2.view.read (Elt F) f2) (M4.view.read (Elt F) f4) := by
  unfold runFirst
  dsimp only
  unfold runFirst.sl.H6_1
  refine (View.read_writes_full M6.view _ _ _ _).trans ?_
  unfold instBlk
  rw [← readAt_full M2.view f2 inb_S1x150x32x384_S1x150x32x384_0_0_0_0, ← readAt_full M4.view f4 inb_S1x128x150_S1x128x150_0_0_0]

theorem numFirst (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : isFirst i = 1#1) (k1_h2 : ¬isLater i = 1#1) (k1_h3 : ¬k1_cond3 i = 1#1)
    (f2 : Bf (F := F) c M2) (f3 : Bf (F := F) c M3) (f4 : Bf (F := F) c M4)  :
    M8.view.read (Elt F) (runFirst (Ix := Ix) (U := U) c i M2 h2 M3 h3 M4 h4 M5 h5 M6 h6 M7 h7 M8 h8 M9 h9 k1_h1 k1_h2 k1_h3 f2 f3 f4).1.2.2.1 = (k1_pay3 (k1_pay13 (M2.view.read (Elt F) f2))) := by
  unfold runFirst
  dsimp only
  unfold runFirst.sl.H8_1
  refine (View.read_writes_full M8.view _ _ _ _).trans ?_
  skip
  rw [← readAt_full M2.view f2 inb_S1x150x32x384_S1x150x32x384_0_0_0_0]

theorem denFirst (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : isFirst i = 1#1) (k1_h2 : ¬isLater i = 1#1) (k1_h3 : ¬k1_cond3 i = 1#1)
    (f2 : Bf (F := F) c M2) (f3 : Bf (F := F) c M3) (f4 : Bf (F := F) c M4)  :
    M9.view.read (Elt F) (runFirst (Ix := Ix) (U := U) c i M2 h2 M3 h3 M4 h4 M5 h5 M6 h6 M7 h7 M8 h8 M9 h9 k1_h1 k1_h2 k1_h3 f2 f3 f4).1.2.2.2 = (k1_pay4 (k1_pay10 (M2.view.read (Elt F) f2))) := by
  unfold runFirst
  dsimp only
  unfold runFirst.sl.H9_1
  refine (View.read_writes_full M9.view _ _ _ _).trans ?_
  skip
  rw [← readAt_full M2.view f2 inb_S1x150x32x384_S1x150x32x384_0_0_0_0]

theorem semMid (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : ¬k1_cond3 i = 1#1)
    (f2 : Bf (F := F) c M2) (f3 : Bf (F := F) c M3) (f4 : Bf (F := F) c M4) (f8 : Bf (F := F) c M8) (f9 : Bf (F := F) c M9) :
    M5.view.read (Elt F) (runMid (Ix := Ix) (U := U) c i M2 h2 M3 h3 M4 h4 M5 h5 M6 h6 M7 h7 M8 h8 M9 h9 k1_h1 k1_h2 k1_h3 f2 f3 f4 f8 f9).1.1 = semBlk (M2.view.read (Elt F) f2) (M3.view.read (Elt F) f3) := by
  unfold runMid
  dsimp only
  unfold runMid.sl.H5_1
  refine (View.read_writes_full M5.view _ _ _ _).trans ?_
  unfold semBlk
  rw [← readAt_full M2.view f2 inb_S1x150x32x384_S1x150x32x384_0_0_0_0, ← readAt_full M3.view f3 inb_S1x150x150_S1x150x150_0_0_0]

theorem instMid (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : ¬k1_cond3 i = 1#1)
    (f2 : Bf (F := F) c M2) (f3 : Bf (F := F) c M3) (f4 : Bf (F := F) c M4) (f8 : Bf (F := F) c M8) (f9 : Bf (F := F) c M9) :
    M6.view.read (Elt F) (runMid (Ix := Ix) (U := U) c i M2 h2 M3 h3 M4 h4 M5 h5 M6 h6 M7 h7 M8 h8 M9 h9 k1_h1 k1_h2 k1_h3 f2 f3 f4 f8 f9).1.2.1 = instBlk (M2.view.read (Elt F) f2) (M4.view.read (Elt F) f4) := by
  unfold runMid
  dsimp only
  unfold runMid.sl.H6_1
  refine (View.read_writes_full M6.view _ _ _ _).trans ?_
  unfold instBlk
  rw [← readAt_full M2.view f2 inb_S1x150x32x384_S1x150x32x384_0_0_0_0, ← readAt_full M4.view f4 inb_S1x128x150_S1x128x150_0_0_0]

theorem numMid (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : ¬k1_cond3 i = 1#1)
    (f2 : Bf (F := F) c M2) (f3 : Bf (F := F) c M3) (f4 : Bf (F := F) c M4) (f8 : Bf (F := F) c M8) (f9 : Bf (F := F) c M9) :
    M8.view.read (Elt F) (runMid (Ix := Ix) (U := U) c i M2 h2 M3 h3 M4 h4 M5 h5 M6 h6 M7 h7 M8 h8 M9 h9 k1_h1 k1_h2 k1_h3 f2 f3 f4 f8 f9).1.2.2.1 = (k1_pay5 (k1_pay13 (M2.view.read (Elt F) f2)) (M8.view.read (Elt F) f8)) := by
  unfold runMid
  dsimp only
  unfold runMid.sl.H8_1
  refine (View.read_writes_full M8.view _ _ _ _).trans ?_
  skip
  rw [← readAt_full M2.view f2 inb_S1x150x32x384_S1x150x32x384_0_0_0_0, ← readAt_full M8.view f8 inb_S150x1_S150x1_0_0]

theorem denMid (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : ¬k1_cond3 i = 1#1)
    (f2 : Bf (F := F) c M2) (f3 : Bf (F := F) c M3) (f4 : Bf (F := F) c M4) (f8 : Bf (F := F) c M8) (f9 : Bf (F := F) c M9) :
    M9.view.read (Elt F) (runMid (Ix := Ix) (U := U) c i M2 h2 M3 h3 M4 h4 M5 h5 M6 h6 M7 h7 M8 h8 M9 h9 k1_h1 k1_h2 k1_h3 f2 f3 f4 f8 f9).1.2.2.2 = (k1_pay6 (k1_pay10 (M2.view.read (Elt F) f2)) (M9.view.read (Elt F) f9)) := by
  unfold runMid
  dsimp only
  unfold runMid.sl.H9_1
  refine (View.read_writes_full M9.view _ _ _ _).trans ?_
  skip
  rw [← readAt_full M2.view f2 inb_S1x150x32x384_S1x150x32x384_0_0_0_0, ← readAt_full M9.view f9 inb_S150x1_S150x1_0_0]

theorem semLast (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : k1_cond3 i = 1#1)
    (f2 : Bf (F := F) c M2) (f3 : Bf (F := F) c M3) (f4 : Bf (F := F) c M4) (f8 : Bf (F := F) c M8) (f9 : Bf (F := F) c M9) :
    M5.view.read (Elt F) (runLast (Ix := Ix) (U := U) c i M2 h2 M3 h3 M4 h4 M5 h5 M6 h6 M7 h7 M8 h8 M9 h9 k1_h1 k1_h2 k1_h3 f2 f3 f4 f8 f9).1.1 = semBlk (M2.view.read (Elt F) f2) (M3.view.read (Elt F) f3) := by
  unfold runLast
  dsimp only
  unfold runLast.sl.H5_1
  refine (View.read_writes_full M5.view _ _ _ _).trans ?_
  unfold semBlk
  rw [← readAt_full M2.view f2 inb_S1x150x32x384_S1x150x32x384_0_0_0_0, ← readAt_full M3.view f3 inb_S1x150x150_S1x150x150_0_0_0]

theorem instLast (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : k1_cond3 i = 1#1)
    (f2 : Bf (F := F) c M2) (f3 : Bf (F := F) c M3) (f4 : Bf (F := F) c M4) (f8 : Bf (F := F) c M8) (f9 : Bf (F := F) c M9) :
    M6.view.read (Elt F) (runLast (Ix := Ix) (U := U) c i M2 h2 M3 h3 M4 h4 M5 h5 M6 h6 M7 h7 M8 h8 M9 h9 k1_h1 k1_h2 k1_h3 f2 f3 f4 f8 f9).1.2.1 = instBlk (M2.view.read (Elt F) f2) (M4.view.read (Elt F) f4) := by
  unfold runLast
  dsimp only
  unfold runLast.sl.H6_1
  refine (View.read_writes_full M6.view _ _ _ _).trans ?_
  unfold instBlk
  rw [← readAt_full M2.view f2 inb_S1x150x32x384_S1x150x32x384_0_0_0_0, ← readAt_full M4.view f4 inb_S1x128x150_S1x128x150_0_0_0]

theorem numLast (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : k1_cond3 i = 1#1)
    (f2 : Bf (F := F) c M2) (f3 : Bf (F := F) c M3) (f4 : Bf (F := F) c M4) (f8 : Bf (F := F) c M8) (f9 : Bf (F := F) c M9) :
    M8.view.read (Elt F) (runLast (Ix := Ix) (U := U) c i M2 h2 M3 h3 M4 h4 M5 h5 M6 h6 M7 h7 M8 h8 M9 h9 k1_h1 k1_h2 k1_h3 f2 f3 f4 f8 f9).1.2.2.1 = (k1_pay5 (k1_pay13 (M2.view.read (Elt F) f2)) (M8.view.read (Elt F) f8)) := by
  unfold runLast
  dsimp only
  unfold runLast.sl.H8_1
  refine (View.read_writes_full M8.view _ _ _ _).trans ?_
  skip
  rw [← readAt_full M2.view f2 inb_S1x150x32x384_S1x150x32x384_0_0_0_0, ← readAt_full M8.view f8 inb_S150x1_S150x1_0_0]

theorem denLast (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : k1_cond3 i = 1#1)
    (f2 : Bf (F := F) c M2) (f3 : Bf (F := F) c M3) (f4 : Bf (F := F) c M4) (f8 : Bf (F := F) c M8) (f9 : Bf (F := F) c M9) :
    M9.view.read (Elt F) (runLast (Ix := Ix) (U := U) c i M2 h2 M3 h3 M4 h4 M5 h5 M6 h6 M7 h7 M8 h8 M9 h9 k1_h1 k1_h2 k1_h3 f2 f3 f4 f8 f9).1.2.2.2.1 = (k1_pay6 (k1_pay10 (M2.view.read (Elt F) f2)) (M9.view.read (Elt F) f9)) := by
  unfold runLast
  dsimp only
  unfold runLast.sl.H9_1
  refine (View.read_writes_full M9.view _ _ _ _).trans ?_
  skip
  rw [← readAt_full M2.view f2 inb_S1x150x32x384_S1x150x32x384_0_0_0_0, ← readAt_full M9.view f9 inb_S150x1_S150x1_0_0]

theorem rtLast (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole) (k1_h1 : ¬isFirst i = 1#1) (k1_h2 : isLater i = 1#1) (k1_h3 : k1_cond3 i = 1#1)
    (f2 : Bf (F := F) c M2) (f3 : Bf (F := F) c M3) (f4 : Bf (F := F) c M4) (f8 : Bf (F := F) c M8) (f9 : Bf (F := F) c M9) :
    M7.view.read (Elt F) (runLast (Ix := Ix) (U := U) c i M2 h2 M3 h3 M4 h4 M5 h5 M6 h6 M7 h7 M8 h8 M9 h9 k1_h1 k1_h2 k1_h3 f2 f3 f4 f8 f9).1.2.2.2.2 = k1_pay7 (k1_pay5 (k1_pay13 (M2.view.read (Elt F) f2)) (M8.view.read (Elt F) f8)) (k1_pay6 (k1_pay10 (M2.view.read (Elt F) f2)) (M9.view.read (Elt F) f9)) := by
  unfold runLast
  dsimp only
  unfold runLast.sl.H7_1
  refine (View.read_writes_full M7.view _ _ _ _).trans ?_
  skip
  rw [← readAt_full M2.view f2 inb_S1x150x32x384_S1x150x32x384_0_0_0_0, ← readAt_full M8.view f8 inb_S150x1_S150x1_0_0, ← readAt_full M9.view f9 inb_S150x1_S150x1_0_0]
  unfold runLast.sl.v46 runLast.sl.v47
  have hz : (![0, 0] : Fin S150x1.rank → ℕ) = fun _ => 0 := by funext a; fin_cases a <;> rfl
  refine congrArg₂ k1_pay7 ?_ ?_
  · exact View.readCov_unit_zero M8.view hz inb_S150x1_S150x1_0_0 _
  · exact View.readCov_unit_zero M9.view hz inb_S150x1_S150x1_0_0 _

/-- A run of the mask kernel at point `i`: the two blocks it writes, its two running sums, and at an image's last point the row of ratios. -/
theorem wp_body (c : Dev nD) (i : grid1.Coords) (M2 : Memref sig .tc .vmem S1x150x32x384 .f32) (h2 : M2.IsWhole) (M3 : Memref sig .tc .vmem S1x150x150 .f32) (h3 : M3.IsWhole)
    (M4 : Memref sig .tc .vmem S1x128x150 .f32) (h4 : M4.IsWhole) (M5 : Memref sig .tc .vmem S1x150x32x384 .f32) (h5 : M5.IsWhole)
    (M6 : Memref sig .tc .vmem S1x100x32x384 .f32) (h6 : M6.IsWhole) (M7 : Memref sig .tc .vmem S1x1x160 .f32) (h7 : M7.IsWhole)
    (M8 : Memref sig .tc .vmem S150x1 .f32) (h8 : M8.IsWhole) (M9 : Memref sig .tc .vmem S150x1 .f32) (h9 : M9.IsWhole)
    (f2 : Bf (F := F) c M2) (f3 : Bf (F := F) c M3) (f4 : Bf (F := F) c M4) (f5 : Bf (F := F) c M5) (f6 : Bf (F := F) c M6) (f7 : Bf (F := F) c M7)
    (f8 : Bf (F := F) c M8) (f9 : Bf (F := F) c M9) (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9
        ∗ (∀ g5 : Bf (F := F) c M5, ∀ g6 : Bf (F := F) c M6, ∀ g7 : Bf (F := F) c M7, ∀ g8 : Bf (F := F) c M8, ∀ g9 : Bf (F := F) c M9,
            ⌜M5.view.read (Elt F) g5 = semBlk (M2.view.read (Elt F) f2) (M3.view.read (Elt F) f3)
              ∧ M6.view.read (Elt F) g6 = instBlk (M2.view.read (Elt F) f2) (M4.view.read (Elt F) f4)
              ∧ M8.view.read (Elt F) g8 = sumN (i 1).val (M2.view.read (Elt F) f2) (M8.view.read (Elt F) f8)
              ∧ M9.view.read (Elt F) g9 = sumD (i 1).val (M2.view.read (Elt F) f2) (M9.view.read (Elt F) f9)
              ∧ ((i 1).val = 11 → M7.view.read (Elt F) g7
                  = ratioRow (sumN (i 1).val (M2.view.read (Elt F) f2) (M8.view.read (Elt F) f8)) (sumD (i 1).val (M2.view.read (Elt F) f2) (M9.view.read (Elt F) f9)))
              ∧ ((i 1).val ≠ 11 → g7 = f7)⌝ -∗
            iprop(pt c M2 f2 ∗ pt c M3 f3 ∗ pt c M4 f4 ∗ pt c M5 g5 ∗ pt c M6 g6 ∗ pt c M7 g7 ∗ pt c M8 g8 ∗ pt c M9 g9) -∗ Q ⟨⟩))
      ⊢ wp frame (wpE (defs₀ (F := F)) Variants.none c none) E (cc1__mega_body i M2 h2 M3 h3 M4 h4 M5 h5 M6 h6 M7 h7 M8 h8 M9 h9) Q := by
  iintro ⟨H2, H3, H4, H5, H6, H7, H8, H9, Hk⟩
  by_cases hn : (i 1).val = 0
  · have hl : ¬(i 1).val = 11 := by omega
    have k1_h1 := (isFirst_iff i).mpr hn
    have k1_h2 := fun h => (isLater_iff i).mp h hn
    have k1_h3 := fun h => hl ((isLast_iff i).mp h)
    iapply (runFirst (Ix := Ix) (U := U) c i M2 h2 M3 h3 M4 h4 M5 h5 M6 h6 M7 h7 M8 h8 M9 h9 k1_h1 k1_h2 k1_h3 f2 f3 f4).2 f8 f9 f5 f6 f7 E Q
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply Hk $$ %_ %_ %_ %_ %_
    ipureintro
    refine ⟨semFirst c i M2 h2 M3 h3 M4 h4 M5 h5 M6 h6 M7 h7 M8 h8 M9 h9 k1_h1 k1_h2 k1_h3 f2 f3 f4, instFirst c i M2 h2 M3 h3 M4 h4 M5 h5 M6 h6 M7 h7 M8 h8 M9 h9 k1_h1 k1_h2 k1_h3 f2 f3 f4, ?_, ?_, ?_⟩
    · rw [sumN, if_pos hn]; exact numFirst c i M2 h2 M3 h3 M4 h4 M5 h5 M6 h6 M7 h7 M8 h8 M9 h9 k1_h1 k1_h2 k1_h3 f2 f3 f4
    · rw [sumD, if_pos hn]; exact denFirst c i M2 h2 M3 h3 M4 h4 M5 h5 M6 h6 M7 h7 M8 h8 M9 h9 k1_h1 k1_h2 k1_h3 f2 f3 f4
    · exact ⟨fun h => absurd h hl, fun _ => rfl⟩
  have k1_h1 := fun h => hn ((isFirst_iff i).mp h)
  have k1_h2 := (isLater_iff i).mpr hn
  by_cases hl : (i 1).val = 11
  · have k1_h3 := (isLast_iff i).mpr hl
    iapply (runLast (Ix := Ix) (U := U) c i M2 h2 M3 h3 M4 h4 M5 h5 M6 h6 M7 h7 M8 h8 M9 h9 k1_h1 k1_h2 k1_h3 f2 f3 f4 f8 f9).2 f5 f6 f7 E Q
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply Hk $$ %_ %_ %_ %_ %_
    ipureintro
    refine ⟨semLast c i M2 h2 M3 h3 M4 h4 M5 h5 M6 h6 M7 h7 M8 h8 M9 h9 k1_h1 k1_h2 k1_h3 f2 f3 f4 f8 f9, instLast c i M2 h2 M3 h3 M4 h4 M5 h5 M6 h6 M7 h7 M8 h8 M9 h9 k1_h1 k1_h2 k1_h3 f2 f3 f4 f8 f9, ?_, ?_, ?_⟩
    · rw [sumN, if_neg hn]; exact numLast c i M2 h2 M3 h3 M4 h4 M5 h5 M6 h6 M7 h7 M8 h8 M9 h9 k1_h1 k1_h2 k1_h3 f2 f3 f4 f8 f9
    · rw [sumD, if_neg hn]; exact denLast c i M2 h2 M3 h3 M4 h4 M5 h5 M6 h6 M7 h7 M8 h8 M9 h9 k1_h1 k1_h2 k1_h3 f2 f3 f4 f8 f9
    · rw [sumN, sumD, if_neg hn, if_neg hn]; exact ⟨fun _ => rtLast c i M2 h2 M3 h3 M4 h4 M5 h5 M6 h6 M7 h7 M8 h8 M9 h9 k1_h1 k1_h2 k1_h3 f2 f3 f4 f8 f9, fun h => absurd hl h⟩
  · have k1_h3 := fun h => hl ((isLast_iff i).mp h)
    iapply (runMid (Ix := Ix) (U := U) c i M2 h2 M3 h3 M4 h4 M5 h5 M6 h6 M7 h7 M8 h8 M9 h9 k1_h1 k1_h2 k1_h3 f2 f3 f4 f8 f9).2 f5 f6 f7 E Q
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply Hk $$ %_ %_ %_ %_ %_
    ipureintro
    refine ⟨semMid c i M2 h2 M3 h3 M4 h4 M5 h5 M6 h6 M7 h7 M8 h8 M9 h9 k1_h1 k1_h2 k1_h3 f2 f3 f4 f8 f9, instMid c i M2 h2 M3 h3 M4 h4 M5 h5 M6 h6 M7 h7 M8 h8 M9 h9 k1_h1 k1_h2 k1_h3 f2 f3 f4 f8 f9, ?_, ?_, ?_⟩
    · rw [sumN, if_neg hn]; exact numMid c i M2 h2 M3 h3 M4 h4 M5 h5 M6 h6 M7 h7 M8 h8 M9 h9 k1_h1 k1_h2 k1_h3 f2 f3 f4 f8 f9
    · rw [sumD, if_neg hn]; exact denMid c i M2 h2 M3 h3 M4 h4 M5 h5 M6 h6 M7 h7 M8 h8 M9 h9 k1_h1 k1_h2 k1_h3 f2 f3 f4 f8 f9
    · exact ⟨fun h => absurd h hl, fun _ => rfl⟩

end Cert.Proof.Mega
-- ==== Proof.Regions.lean ====
/-
  The two TensorCore calls of the program inside its launch: the selection call and the mask call, each entered from any
  contents of the arrays and left with its results in place. The contents of the arrays are a parameter (`V`), and what
  a call leaves is stated array by array.
-/
module

public import proofs.«01_k».proof.Proof.Sc
public import proofs.«01_k».proof.Proof.Topk
public import proofs.«01_k».proof.Proof.Mega
public import Idealize.ShloMosaic.Lib.Pipeline.RegionsLoop
public import Idealize.ShloMosaic.Lib.Pipeline.FrameBody
public import Idealize.ShloMosaic.Lib.Pipeline.Value
public import Idealize.ShloMosaic.Lib.Pipeline.ValueKit.Geometry
public import Idealize.ShloMosaic.Lib.ValueIdxCoords

@[expose] public section

noncomputable section

namespace Cert.Proof.Regions

open Cert.KernelIdeal Cert.KernelIdeal.Gen

open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Sc (UU EP K adm)
open Cert.Proof.Topk (Bf pt)
open Idealize.ShloMosaic.ValueIdx (ix3 ix4)

variable {F : FTy → Type} [FloatOps F]

local notation "𝕄" => MT nD τ sig (HIx 1) (Elt F) ℕ UU ℕ

/-- Equal assertions entail one another. -/
theorem of_eq {P Q : sProp 𝕄} (e : P = Q) : P ⊢ Q := e ▸ .rfl

/-- The contents of every array of a core's program. -/
abbrev Vals (F : FTy → Type) : Type := (c : Dev nD) → (b : Ref sig .tc) → Buf (Elt F) ((c : Thread nD τ).loc b)

/-- A memref over a whole buffer, owned: the buffer held at contents that read as stated. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- What the core owes while the two calls run: its part of the SparseCore call, no wait of it above the first level. -/
abbrev owing (c : Dev nD) : sProp 𝕄 :=
  iprop(∃ W, ⌜(K (F := F)).WBelow (T c) W 0⌝ ∗ owes (T c) ((K (F := F)).Otc c 0) W)

/-- The waits the two calls may have recorded. -/
abbrev low (c : Dev nD) : Set (SemLoc sig × HIx 1) := {p | (K (F := F)).lev (T c, p.1) p.2 ≤ 0}

theorem otc_pos (c : Dev nD) (g : GSem nD τ sig) (i : HIx 1) (h : 0 < (K (F := F)).Otc c 0 g i) : i ∈ (K (F := F)).L g ∧ 0 < (K (F := F)).lev g i := by
  refine ⟨Finset.mem_univ _, ?_⟩
  cases i with
  | some q => exact Nat.succ_pos _
  | none =>
    exfalso
    have h0 : (K (F := F)).Otc c 0 g none = 0 := by
      unfold SparseCore.Cfg.Otc
      rw [Finset.sum_apply, Finsupp.finsetSum_apply]
      refine Finset.sum_eq_zero fun q _ => ?_
      split
      · rw [Finset.sum_apply, Finsupp.finsetSum_apply]
        refine Finset.sum_eq_zero fun e _ => ?_
        unfold tallyAt tallyOn
        rw [Pi.single_apply]
        split
        · exact Finsupp.single_eq_of_ne (by simp)
        · rfl
      · rfl
    omega

/-! ## The selection call -/

section Select

variable (V : Vals F)

/-- The scores as the call stages them. -/
abbrev stg (c : Dev nD) : FVec F S2x150x151 .f32 := ((cfg0.win 0).blk t0_0).view.read (Elt F) (V c main_arg0)

/-- The call over the arrays at `V`: its five results' staging buffers left at their values of the scores. -/
def dat0 (c : Dev nD) : Dat τ (Elt F) (HIx 1) ℕ UU ℕ cfg0 c where
  A w := V c (Pipeline.arrRef spec0 w)
  after w _ := match w with
    | ⟨0, _⟩ => stg V c
    | ⟨1, _⟩ => Topk.probsOf (stg V c)
    | ⟨2, _⟩ => Topk.valsOf (stg V c)
    | ⟨3, _⟩ => Topk.labelsOf (stg V c)
    | ⟨4, _⟩ => Topk.queriesOf (stg V c)
    | ⟨5, _⟩ => Topk.onehotOf (stg V c)
  Φ _ := Pipeline.scopedRest (Ix := HIx 1) (Name := ℕ) (U := UU) (Lvl := ℕ) (Val := Elt F) spec0 c
  q _ := fullShare
  owed _ := (K (F := F)).Otc c 0
  recorded _ := low (F := F) c

theorem before0_in (c : Dev nD) (d : (cfg0.win 0).block.Idx → Elt F (cfg0.win 0).elt) : (dat0 V c).before 0 t0_0 d = stg V c := by
  unfold Dat.before; rw [if_pos (fetch0_0 _)]; rfl

theorem body0 (c : Dev nD) : BodyObligation (dat0 V c) (defs₀ (F := F)) Variants.none (none : HIx 1) Set.univ := fun t => by
  obtain rfl := fin_N0 t
  rw [bigSep_W0, bigSep_W0]
  rw [show (dat0 V c).Φ t0_0.succ = (dat0 V c).Φ t0_0.castSucc from rfl,
    show (dat0 V c).owesAt (none : HIx 1) t0_0.succ = (dat0 V c).owesAt none t0_0.castSucc from rfl]
  dsimp only
  simp only [owns_pt c (stage0_0 0) (hstage0_0 0), owns_pt c (stage0_1 0) (hstage0_1 0), owns_pt c (stage0_2 0) (hstage0_2 0),
    owns_pt c (stage0_3 0) (hstage0_3 0), owns_pt c (stage0_4 0) (hstage0_4 0), owns_pt c (stage0_5 0) (hstage0_5 0)]

  iintro ⟨HΦ, Howes, ⟨%d0, %f0, %hf0, H0⟩, ⟨%d1, %f1, -, H1⟩, ⟨%d2, %f2, -, H2⟩, ⟨%d3, %f3, -, H3⟩, ⟨%d4, %f4, -, H4⟩, ⟨%d5, %f5, -, H5⟩⟩
  rw [before0_in] at hf0
  iapply (Topk.wp_body (Ix := HIx 1) (U := UU) c (stage0_0 0) (hstage0_0 0) (stage0_1 0) (hstage0_1 0) (stage0_2 0) (hstage0_2 0)
    (stage0_3 0) (hstage0_3 0) (stage0_4 0) (hstage0_4 0) (stage0_5 0) (hstage0_5 0) (stg V c) f0 hf0 f1 f2 f3 f4 f5 Set.univ _)
  isplitl [H0]; · iexact H0
  isplitl [H1]; · iexact H1
  isplitl [H2]; · iexact H2
  isplitl [H3]; · iexact H3
  isplitl [H4]; · iexact H4
  isplitl [H5]; · iexact H5
  iintro %g1 %g2 %g3 %g4 %g5 %hg ⟨H0, H1, H2, H3, H4, H5⟩
  obtain ⟨h1, h2, h3, h4, h5⟩ := hg
  isplitl [HΦ]; · iexact HΦ
  isplitl [Howes]; · iexact Howes
  isplitl [H0]; · iexists f0; isplitr; · ipureintro; exact hf0
                  iexact H0
  isplitl [H1]; · iexists g1; isplitr; · ipureintro; exact h1
                  iexact H1
  isplitl [H2]; · iexists g2; isplitr; · ipureintro; exact h2
                  iexact H2
  isplitl [H3]; · iexists g3; isplitr; · ipureintro; exact h3
                  iexact H3
  isplitl [H4]; · iexists g4; isplitr; · ipureintro; exact h4
                  iexact H4
  iexists g5; isplitr; · ipureintro; exact h5
  iexact H5

end Select

/-! ## The mask call: its blocks, its running sums, its three results -/

/-- The mask block of point `t`: image `t / 12`, the thirty-two rows from `32 * (t % 12)`. -/
def maskBlk (M : FVec F S2x150x384x384 .f32) (t : ℕ) : FVec F S1x150x32x384 .f32 := fun i =>
  M (ix4 (⟨t / 12 % 2, Nat.mod_lt _ (by decide)⟩ : Fin 2) (i 1 : Fin 150)
    (⟨t % 12 * 32 + (i 2).val, by have h1 : (i 2).val < 32 := (i 2).isLt; have h2 := Nat.mod_lt t (show 0 < 12 by decide); omega⟩ : Fin 384) (i 3 : Fin 384))

/-- The image of point `t` in the class probabilities, and in the one-hot rows. -/
def rowBlk (y : FVec F S2x150x150 .f32) (t : ℕ) : FVec F S1x150x150 .f32 := fun i =>
  y (ix3 (⟨t / 12 % 2, Nat.mod_lt _ (by decide)⟩ : Fin 2) (i 1 : Fin 150) (i 2 : Fin 150))
def hotBlk (z : FVec F S2x128x150 .f32) (t : ℕ) : FVec F S1x128x150 .f32 := fun i =>
  z (ix3 (⟨t / 12 % 2, Nat.mod_lt _ (by decide)⟩ : Fin 2) (i 1 : Fin 128) (i 2 : Fin 150))

/-- The two running sums before point `t`, over mask blocks `X`. -/
def accN (X : ℕ → FVec F S1x150x32x384 .f32) : ℕ → FVec F S150x1 .f32
  | 0 => k1_pay3 (k1_pay13 (X 0))
  | t + 1 => Mega.sumN (t % 12) (X t) (accN X t)
def accD (X : ℕ → FVec F S1x150x32x384 .f32) : ℕ → FVec F S150x1 .f32
  | 0 => k1_pay4 (k1_pay10 (X 0))
  | t + 1 => Mega.sumD (t % 12) (X t) (accD X t)

/-- The class maps, the selected masks and the mask ratios that the call leaves in its three arrays. -/
def semOf (M : FVec F S2x150x384x384 .f32) (y : FVec F S2x150x150 .f32) : FVec F S2x150x384x384 .f32 := fun j =>
  Mega.semBlk (maskBlk M (12 * (j 0).val + (j 2).val / 32)) (rowBlk y (12 * (j 0).val + (j 2).val / 32))
    (ix4 (0 : Fin 1) (j 1 : Fin 150) (⟨(j 2).val % 32, Nat.mod_lt _ (by decide)⟩ : Fin 32) (j 3 : Fin 384))
def instOf (M : FVec F S2x150x384x384 .f32) (z : FVec F S2x128x150 .f32) : FVec F S2x100x384x384 .f32 := fun j =>
  Mega.instBlk (maskBlk M (12 * (j 0).val + (j 2).val / 32)) (hotBlk z (12 * (j 0).val + (j 2).val / 32))
    (ix4 (0 : Fin 1) (j 1 : Fin 100) (⟨(j 2).val % 32, Nat.mod_lt _ (by decide)⟩ : Fin 32) (j 3 : Fin 384))
def ratiosOf (M : FVec F S2x150x384x384 .f32) : FVec F S2x1x160 .f32 := fun j =>
  Mega.ratioRow (accN (maskBlk M) (12 * (j 0).val + 12)) (accD (maskBlk M) (12 * (j 0).val + 12)) (ix3 (0 : Fin 1) (0 : Fin 1) (j 2 : Fin 160))

theorem coords1_1 : ∀ t : Fin cfg1.N, ((grid1.coords t) 1).val = t.val % 12 := (by decide +kernel : ∀ t : Fin grid1.N, ((grid1.coords t) 1).val = t.val % 12)
theorem index1_0 : ∀ t : Fin cfg1.N, win1_0.index t = ![t.val / 12 % 2, 0, t.val % 12, 0] := (by decide +kernel : ∀ t : Fin grid1.N, _)
theorem index1_1 : ∀ t : Fin cfg1.N, win1_1.index t = ![t.val / 12 % 2, 0, 0] := (by decide +kernel : ∀ t : Fin grid1.N, _)
theorem index1_2 : ∀ t : Fin cfg1.N, win1_2.index t = ![t.val / 12 % 2, 0, 0] := (by decide +kernel : ∀ t : Fin grid1.N, _)
theorem index1_3 : ∀ t : Fin cfg1.N, win1_3.index t = ![t.val / 12 % 2, 0, t.val % 12, 0] := (by decide +kernel : ∀ t : Fin grid1.N, _)
theorem index1_4 : ∀ t : Fin cfg1.N, win1_4.index t = ![t.val / 12 % 2, 0, t.val % 12, 0] := (by decide +kernel : ∀ t : Fin grid1.N, _)
theorem index1_5 : ∀ t : Fin cfg1.N, win1_5.index t = ![t.val / 12 % 2, 0, 0] := (by decide +kernel : ∀ t : Fin grid1.N, _)
theorem idle1_5 : ∀ t : Fin cfg1.N, cfg1.idle 5 (cfg1.grid.coords t) = !decide (t.val % 12 = 11) := (by decide +kernel : ∀ t : Fin grid1.N, idle1 5 (grid1.coords t) = !decide (t.val % 12 = 11))

section Masks

variable (V : Vals F)

theorem read1_0 (M : FVec F S2x150x384x384 .f32) (t : Fin cfg1.N) : ((cfg1.win 0).blk t).view.read (Elt F) M = maskBlk M t.val := by
  funext y
  unfold maskBlk
  blk_simp
  refine congrArg M ?_
  blk_ext [index1_0]

theorem read1_1 (y : FVec F S2x150x150 .f32) (t : Fin cfg1.N) : ((cfg1.win 1).blk t).view.read (Elt F) y = rowBlk y t.val := by
  funext x
  unfold rowBlk
  blk_simp
  refine congrArg y ?_
  blk_ext [index1_1]

theorem read1_2 (z : FVec F S2x128x150 .f32) (t : Fin cfg1.N) : ((cfg1.win 2).blk t).view.read (Elt F) z = hotBlk z t.val := by
  funext x
  unfold hotBlk
  blk_simp
  refine congrArg z ?_
  blk_ext [index1_2]

/-- The other call's staging buffers, which this one leaves alone. -/
abbrev idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

/-- Between the points: inside an image the two scratch buffers hold the running sums of its blocks so far. -/
abbrev inv1 (c : Dev nD) (t : ℕ) : sProp 𝕄 :=
  iprop(idleBufs c ∗ ∃ f8 : FVec F S150x1 .f32, ∃ f9 : FVec F S150x1 .f32,
    ⌜t % 12 ≠ 0 → f8 = accN (maskBlk (V c main_arg1)) t ∧ f9 = accD (maskBlk (V c main_arg1)) t⌝
      ∗ (((c : Thread nD τ).loc cc1_scratch0) ↦{fullShare} f8) ∗ (((c : Thread nD τ).loc cc1_scratch1) ↦{fullShare} f9))

/-- The call over the arrays at `V`: its inputs' blocks, and what the body leaves in each result's staging buffer. -/
def dat1 (c : Dev nD) : Dat τ (Elt F) (HIx 1) ℕ UU ℕ cfg1 c where
  A w := V c (Pipeline.arrRef spec1 w)
  after w t := match w with
    | ⟨0, _⟩ => maskBlk (V c main_arg1) t.val
    | ⟨1, _⟩ => rowBlk (V c main_v0_0) t.val
    | ⟨2, _⟩ => hotBlk (V c main_v0_4) t.val
    | ⟨3, _⟩ => Mega.semBlk (maskBlk (V c main_arg1) t.val) (rowBlk (V c main_v0_0) t.val)
    | ⟨4, _⟩ => Mega.instBlk (maskBlk (V c main_arg1) t.val) (hotBlk (V c main_v0_4) t.val)
    | ⟨5, _⟩ => Mega.ratioRow (accN (maskBlk (V c main_arg1)) (t.val + 1)) (accD (maskBlk (V c main_arg1)) (t.val + 1))
  Φ t := inv1 V c t.val
  q _ := fullShare
  owed _ := (K (F := F)).Otc c 0
  recorded _ := low (F := F) c

theorem before1_0 (c : Dev nD) (t : Fin cfg1.N) (d : (cfg1.win 0).block.Idx → Elt F (cfg1.win 0).elt) :
    (dat1 V c).before 0 t d = maskBlk (V c main_arg1) t.val :=
  ((dat1 V c).before_in_eq_fetched 0 rfl (fun _ => rfl) (fun _ _ _ => rfl) (fun t => (read1_0 (V c main_arg1) t).symm) t d).trans (read1_0 (V c main_arg1) t)
theorem before1_1 (c : Dev nD) (t : Fin cfg1.N) (d : (cfg1.win 1).block.Idx → Elt F (cfg1.win 1).elt) :
    (dat1 V c).before 1 t d = rowBlk (V c main_v0_0) t.val :=
  ((dat1 V c).before_in_eq_fetched 1 rfl (fun _ => rfl) (fun _ _ _ => rfl) (fun t => (read1_1 (V c main_v0_0) t).symm) t d).trans (read1_1 (V c main_v0_0) t)
theorem before1_2 (c : Dev nD) (t : Fin cfg1.N) (d : (cfg1.win 2).block.Idx → Elt F (cfg1.win 2).elt) :
    (dat1 V c).before 2 t d = hotBlk (V c main_v0_4) t.val :=
  ((dat1 V c).before_in_eq_fetched 2 rfl (fun _ => rfl) (fun _ _ _ => rfl) (fun t => (read1_2 (V c main_v0_4) t).symm) t d).trans (read1_2 (V c main_v0_4) t)

theorem sumN_congr (n : ℕ) (x : FVec F S1x150x32x384 .f32) (a b : FVec F S150x1 .f32) (h : n ≠ 0 → a = b) : Mega.sumN n x a = Mega.sumN n x b := by
  unfold Mega.sumN
  split
  · rfl
  · next hn => rw [h hn]
theorem sumD_congr (n : ℕ) (x : FVec F S1x150x32x384 .f32) (a b : FVec F S150x1 .f32) (h : n ≠ 0 → a = b) : Mega.sumD n x a = Mega.sumD n x b := by
  unfold Mega.sumD
  split
  · rfl
  · next hn => rw [h hn]

/-- Each point of the mask call: the blocks written, the running sums carried on, and the ratios at an image's last point. -/
theorem body1 (c : Dev nD) : BodyObligation (dat1 V c) (defs₀ (F := F)) Variants.none (none : HIx 1) Set.univ := fun t => by
  rw [bigSep_W1, bigSep_W1]
  rw [show (dat1 V c).Φ t.succ = inv1 V c (t.val + 1) from rfl, show (dat1 V c).Φ t.castSucc = inv1 V c t.val from rfl,
    show (dat1 V c).owesAt (none : HIx 1) t.succ = (dat1 V c).owesAt none t.castSucc from rfl]
  dsimp only
  simp only [owns_pt c (st1_0 t) (stage_whole1 0 _), owns_pt c (st1_1 t) (stage_whole1 1 _), owns_pt c (st1_2 t) (stage_whole1 2 _),
    owns_pt c (st1_3 t) (stage_whole1 3 _), owns_pt c (st1_4 t) (stage_whole1 4 _), owns_pt c (st1_5 t) (stage_whole1 5 _)]
  iintro ⟨⟨Hidle, %f8, %f9, %hacc, H8, H9⟩, Howes, ⟨%d0, %f0, %hf0, H0⟩, ⟨%d1, %f1, %hf1, H1⟩, ⟨%d2, %f2, %hf2, H2⟩, ⟨%d3, %f3, -, H3⟩, ⟨%d4, %f4, -, H4⟩, ⟨%d5, %f5, %hf5, H5⟩⟩
  rw [before1_0] at hf0
  rw [before1_1] at hf1
  rw [before1_2] at hf2
  iapply (Mega.wp_body (Ix := HIx 1) (U := UU) c (grid1.coords t) (st1_0 t) (stage_whole1 0 _) (st1_1 t) (stage_whole1 1 _) (st1_2 t) (stage_whole1 2 _)
    (st1_3 t) (stage_whole1 3 _) (st1_4 t) (stage_whole1 4 _) (st1_5 t) (stage_whole1 5 _) (Memref.whole cc1_scratch0) (Memref.isWhole_whole _)
    (Memref.whole cc1_scratch1) (Memref.isWhole_whole _) f0 f1 f2 f3 f4 f5 f8 f9 Set.univ _)
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iintro %g3 %g4 %g5 %g8 %g9 %hg ⟨H0, H1, H2, H3, H4, H5, H8, H9⟩
  obtain ⟨h3, h4, h8, h9, hlast, hkeep⟩ := hg
  rw [coords1_1] at h8 h9 hlast hkeep
  rw [hf0] at h3 h4 h8 h9 hlast
  rw [hf1] at h3
  rw [hf2] at h4
  have e8 : Mega.sumN (t.val % 12) (maskBlk (V c main_arg1) t.val) ((Memref.whole cc1_scratch0).view.read (Elt F) f8) = accN (maskBlk (V c main_arg1)) (t.val + 1) :=
    sumN_congr _ _ _ _ fun h => (hacc h).1
  have e9 : Mega.sumD (t.val % 12) (maskBlk (V c main_arg1) t.val) ((Memref.whole cc1_scratch1).view.read (Elt F) f9) = accD (maskBlk (V c main_arg1)) (t.val + 1) :=
    sumD_congr _ _ _ _ fun h => (hacc h).2
  rw [e8] at h8 hlast
  rw [e9] at h9 hlast
  isplitl [Hidle H8 H9]
  · isplitl [Hidle]; · iexact Hidle
    iexists g8; iexists g9
    isplitr; · ipureintro; exact fun _ => ⟨h8, h9⟩
    isplitl [H8]; · iexact H8
    iexact H9
  isplitl [Howes]; · iexact Howes
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists g3; isplitr; · ipureintro; exact h3
                  iexact H3
  isplitl [H4]; · iexists g4; isplitr; · ipureintro; exact h4
                  iexact H4
  by_cases hl : t.val % 12 = 11
  · rw [show idle1 5 (grid1.coords t) = false from (idle1_5 t).trans (by rw [decide_eq_true hl]; rfl)]
    iexists g5; isplitr; · ipureintro; exact hlast hl
    iexact H5
  · rw [show idle1 5 (grid1.coords t) = true from (idle1_5 t).trans (by rw [decide_eq_false hl]; rfl),
      show (win1 5).flush t = false from by
        rw [Bool.eq_false_iff]; exact fun h => hl ((flush1_5 t).mp h)]
    iexists d5; iexists g5; isplitr; · ipureintro; rw [hkeep hl]; exact hf5
    iexact H5

end Masks

/-! ## What the two calls leave in their arrays -/

section Finals

variable (V : Vals F)

theorem stg_eq (c : Dev nD) : stg V c = V c main_arg0 := by
  funext y
  unfold stg
  blk_simp
  refine congrArg (V c main_arg0) ?_
  blk_ext [show win0_0.index t0_0 = ![0, 0, 0] from by decide +kernel]

theorem final0_1 (c : Dev nD) : (dat0 V c).arrAt 1 cfg0.N = Topk.probsOf (V c main_arg0) := by
  refine (dat0 V c).arrAt_eq_of_covers 1 _ (by decide +kernel) fun t hf y => ?_
  obtain rfl := fin_N0 t
  blk_simp
  rw [show (dat0 V c).after 1 t0_0 = Topk.probsOf (V c main_arg0) from congrArg Topk.probsOf (stg_eq V c)]
  refine congrArg (Topk.probsOf (V c main_arg0)) ?_
  blk_ext [show win0_1.index t0_0 = ![0, 0, 0] from by decide +kernel]

theorem final0_2 (c : Dev nD) : (dat0 V c).arrAt 2 cfg0.N = Topk.valsOf (V c main_arg0) := by
  refine (dat0 V c).arrAt_eq_of_covers 2 _ (by decide +kernel) fun t hf y => ?_
  obtain rfl := fin_N0 t
  blk_simp
  rw [show (dat0 V c).after 2 t0_0 = Topk.valsOf (V c main_arg0) from congrArg Topk.valsOf (stg_eq V c)]
  refine congrArg (Topk.valsOf (V c main_arg0)) ?_
  blk_ext [show win0_2.index t0_0 = ![0, 0] from by decide +kernel]

theorem final0_3 (c : Dev nD) : (dat0 V c).arrAt 3 cfg0.N = Topk.labelsOf (V c main_arg0) := by
  refine (dat0 V c).arrAt_eq_of_covers 3 _ (by decide +kernel) fun t hf y => ?_
  obtain rfl := fin_N0 t
  blk_simp
  rw [show (dat0 V c).after 3 t0_0 = Topk.labelsOf (V c main_arg0) from congrArg Topk.labelsOf (stg_eq V c)]
  refine congrArg (Topk.labelsOf (V c main_arg0)) ?_
  blk_ext [show win0_3.index t0_0 = ![0, 0] from by decide +kernel]

theorem final0_4 (c : Dev nD) : (dat0 V c).arrAt 4 cfg0.N = Topk.queriesOf (V c main_arg0) := by
  refine (dat0 V c).arrAt_eq_of_covers 4 _ (by decide +kernel) fun t hf y => ?_
  obtain rfl := fin_N0 t
  blk_simp
  rw [show (dat0 V c).after 4 t0_0 = Topk.queriesOf (V c main_arg0) from congrArg Topk.queriesOf (stg_eq V c)]
  refine congrArg (Topk.queriesOf (V c main_arg0)) ?_
  blk_ext [show win0_4.index t0_0 = ![0, 0] from by decide +kernel]

theorem final0_5 (c : Dev nD) : (dat0 V c).arrAt 5 cfg0.N = Topk.onehotOf (V c main_arg0) := by
  refine (dat0 V c).arrAt_eq_of_covers 5 _ (by decide +kernel) fun t hf y => ?_
  obtain rfl := fin_N0 t
  blk_simp
  rw [show (dat0 V c).after 5 t0_0 = Topk.onehotOf (V c main_arg0) from congrArg Topk.onehotOf (stg_eq V c)]
  refine congrArg (Topk.onehotOf (V c main_arg0)) ?_
  blk_ext [show win0_5.index t0_0 = ![0, 0, 0] from by decide +kernel]

theorem point_lt (t : Fin cfg1.N) : t.val < 24 := by have h := t.isLt; have e : cfg1.N = 24 := N_1; omega

theorem semOf_at (M : FVec F S2x150x384x384 .f32) (y : FVec F S2x150x150 .f32) (t : ℕ) (j : S2x150x384x384.Idx) (k : S1x150x32x384.Idx)
    (ht : 12 * (j 0).val + (j 2).val / 32 = t) (h1 : (j 1).val = (k 1).val) (h2 : (j 2).val % 32 = (k 2).val) (h3 : (j 3).val = (k 3).val) :
    Mega.semBlk (maskBlk M t) (rowBlk y t) k = semOf M y j := by
  subst ht
  unfold semOf
  refine congrArg _ (funext fun a => Fin.ext ?_)
  match a with
  | ⟨0, _⟩ => exact Nat.lt_one_iff.mp (k 0).isLt
  | ⟨1, _⟩ => exact h1.symm
  | ⟨2, _⟩ => exact h2.symm
  | ⟨3, _⟩ => exact h3.symm

theorem final1_3 (c : Dev nD) : (dat1 V c).arrAt 3 cfg1.N = semOf (V c main_arg1) (V c main_v0_0) := by
  refine (dat1 V c).arrAt_eq_of_covers 3 _ (by decide +kernel) fun t hf y => ?_
  have ht := point_lt t
  have h0 : (y 0).val < 1 := (y 0).isLt
  have h2 : (y 2).val < 32 := (y 2).isLt
  blk_simp
  refine semOf_at (V c main_arg1) (V c main_v0_0) t.val _ y ?_ ?_ ?_ ?_
  · blk_simp [index1_3]; simp; omega
  · blk_simp [index1_3]
  · blk_simp [index1_3]; simp; omega
  · blk_simp [index1_3]

theorem instOf_at (M : FVec F S2x150x384x384 .f32) (y : FVec F S2x128x150 .f32) (t : ℕ) (j : S2x100x384x384.Idx) (k : S1x100x32x384.Idx)
    (ht : 12 * (j 0).val + (j 2).val / 32 = t) (h1 : (j 1).val = (k 1).val) (h2 : (j 2).val % 32 = (k 2).val) (h3 : (j 3).val = (k 3).val) :
    Mega.instBlk (maskBlk M t) (hotBlk y t) k = instOf M y j := by
  subst ht
  unfold instOf
  refine congrArg _ (funext fun a => Fin.ext ?_)
  match a with
  | ⟨0, _⟩ => exact Nat.lt_one_iff.mp (k 0).isLt
  | ⟨1, _⟩ => exact h1.symm
  | ⟨2, _⟩ => exact h2.symm
  | ⟨3, _⟩ => exact h3.symm

theorem final1_4 (c : Dev nD) : (dat1 V c).arrAt 4 cfg1.N = instOf (V c main_arg1) (V c main_v0_4) := by
  refine (dat1 V c).arrAt_eq_of_covers 4 _ (by decide +kernel) fun t hf y => ?_
  have ht := point_lt t
  have h0 : (y 0).val < 1 := (y 0).isLt
  have h2 : (y 2).val < 32 := (y 2).isLt
  blk_simp
  refine instOf_at (V c main_arg1) (V c main_v0_4) t.val _ y ?_ ?_ ?_ ?_
  · blk_simp [index1_4]; simp; omega
  · blk_simp [index1_4]
  · blk_simp [index1_4]; simp; omega
  · blk_simp [index1_4]

theorem ratiosOf_at (M : FVec F S2x150x384x384 .f32) (t : ℕ) (j : S2x1x160.Idx) (k : S1x1x160.Idx) (ht : 12 * (j 0).val + 12 = t) (h2 : (j 2).val = (k 2).val) :
    Mega.ratioRow (accN (maskBlk M) t) (accD (maskBlk M) t) k = ratiosOf M j := by
  subst ht
  unfold ratiosOf
  refine congrArg _ (funext fun a => Fin.ext ?_)
  match a with
  | ⟨0, _⟩ => exact Nat.lt_one_iff.mp (k 0).isLt
  | ⟨1, _⟩ => exact Nat.lt_one_iff.mp (k 1).isLt
  | ⟨2, _⟩ => exact h2.symm

theorem final1_5 (c : Dev nD) : (dat1 V c).arrAt 5 cfg1.N = ratiosOf (V c main_arg1) := by
  refine (dat1 V c).arrAt_eq_of_covers 5 _ (by decide +kernel) fun t hf y => ?_
  have ht := point_lt t
  have hl := (flush1_5 t).mp hf
  have h0 : (y 0).val < 1 := (y 0).isLt
  blk_simp
  refine ratiosOf_at (V c main_arg1) (t.val + 1) _ y ?_ ?_
  · blk_simp [index1_5]; simp; omega
  · blk_simp [index1_5]

end Finals

/-! ## The two calls as regions of the program -/

section Segments

variable (V : Vals F)

/-- What each of the two calls runs on, entered at `V`. -/
def pdats : (p : Fin 2) → (c : Dev nD) → Dat τ (Elt F) (HIx 1) ℕ UU ℕ (Pipeline.pin (pcfgs (F := F)) adm p) c
  | ⟨0, _⟩ => fun c => dat0 V c
  | ⟨1, _⟩ => fun c => dat1 V c

theorem waits0 (c : Dev nD) : (levAts (K (F := F)).L (K (F := F)).lev : sProp 𝕄) ⊢ Pipeline.cellsWaits (Pipeline.pin (pcfgs (F := F)) adm) (pdats V) (none : HIx 1) 0 c :=
  Pipeline.cellsWaits_of_cut (Pipeline.pin (pcfgs (F := F)) adm) (pdats V) (none : HIx 1) 0 c 0 ((K (F := F)).Otc c 0) (fun _ => rfl)
    (fun _ _ => Finset.mem_univ _) (fun _ _ => le_rfl) (otc_pos c)
theorem waits1 (c : Dev nD) : (levAts (K (F := F)).L (K (F := F)).lev : sProp 𝕄) ⊢ Pipeline.cellsWaits (Pipeline.pin (pcfgs (F := F)) adm) (pdats V) (none : HIx 1) 1 c :=
  Pipeline.cellsWaits_of_cut (Pipeline.pin (pcfgs (F := F)) adm) (pdats V) (none : HIx 1) 1 c 0 ((K (F := F)).Otc c 0) (fun _ => rfl)
    (fun _ _ => Finset.mem_univ _) (fun _ _ => le_rfl) (otc_pos c)

variable (Vp : Vals F)

set_option backward.isDefEq.respectTransparency.types false in
/-- The selection call, from the arrays at `V` to the arrays at `Vp`: its five results at their values of the scores. -/
def reg0 (h1 : ∀ c, Vp c main_v0_0 = Topk.probsOf (V c main_arg0)) (h2 : ∀ c, Vp c main_v0_1 = Topk.valsOf (V c main_arg0))
    (h3 : ∀ c, Vp c main_v0_2 = Topk.labelsOf (V c main_arg0)) (h4 : ∀ c, Vp c main_v0_3 = Topk.queriesOf (V c main_arg0))
    (h5 : ∀ c, Vp c main_v0_4 = Topk.onehotOf (V c main_arg0))
    (hne : ∀ c (b : Ref sig .tc), b ≠ main_v0_0 → b ≠ main_v0_1 → b ≠ main_v0_2 → b ≠ main_v0_3 → b ≠ main_v0_4 → Vp c b = V c b) :
    Pipeline.RegionSeg (pcfgs (F := F)) adm (pdats V) (none : HIx 1) defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body0 V c).loose
  hwaits := waits0 V
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg0 (by decide) (by decide) (by decide) (by decide) (by decide)).symm
        · exact (final0_1 V c).trans (h1 c).symm
        · exact (final0_2 V c).trans (h2 c).symm
        · exact (final0_3 V c).trans (h3 c).symm
        · exact (final0_4 V c).trans (h4 c).symm
        · exact (final0_5 V c).trans (h5 c).symm)
      (fun b hb => hne c b (fun h => hb (h ▸ Finset.mem_image.mpr ⟨1, Finset.mem_univ _, rfl⟩)) (fun h => hb (h ▸ Finset.mem_image.mpr ⟨2, Finset.mem_univ _, rfl⟩))
        (fun h => hb (h ▸ Finset.mem_image.mpr ⟨3, Finset.mem_univ _, rfl⟩)) (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, i, rfl⟩ := h; exact le_rfl
    iexact HO

set_option backward.isDefEq.respectTransparency.types false in
/-- The mask call, from the arrays at `V` to the arrays at `Vp`: its three results at their values of the masks, the class
    probabilities and the one-hot rows. -/
def reg1 (h3 : ∀ c, Vp c main_v1_0 = semOf (V c main_arg1) (V c main_v0_0)) (h4 : ∀ c, Vp c main_v1_1 = instOf (V c main_arg1) (V c main_v0_4))
    (h5 : ∀ c, Vp c main_v1_2 = ratiosOf (V c main_arg1))
    (hne : ∀ c (b : Ref sig .tc), b ≠ main_v1_0 → b ≠ main_v1_1 → b ≠ main_v1_2 → Vp c b = V c b) :
    Pipeline.RegionSeg (pcfgs (F := F)) adm (pdats V) (none : HIx 1) defs₀ Variants.none (K (F := F)).L (K (F := F)).lev 1 where
  win := launch1.win.to₀
  block_pos := launch1.block_pos
  stage_whole := launch1.stage_whole
  K := PEmpty
  osem k := k.elim
  ho := Pipeline.OwnSemFacts.none _
  hbody c := (body1 V c).loose
  hwaits := waits1 V
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 1) (pcfgs (F := F)) adm (pdats V) launch1.win launch1.arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 1 c).Φ 0 = inv1 V c 0 from rfl]
    iintro ⟨-, -, Hr⟩
    ihave Hs := (of_eq (scopedRest1_eq (Ix := HIx 1) (Val := Elt F) (Name := ℕ) (U := UU) (Lvl := ℕ) c)) $$ Hr
    icases Hs with ⟨H0, H1, H2, H3, H4, H5, ⟨%f8, H8⟩, ⟨%f9, H9⟩⟩
    isplitl [H0 H1 H2 H3 H4 H5]
    · isplitl [H0]; · iexact H0
      isplitl [H1]; · iexact H1
      isplitl [H2]; · iexact H2
      isplitl [H3]; · iexact H3
      isplitl [H4]; · iexact H4
      iexact H5
    iexists f8; iexists f9
    isplitr; · ipureintro; exact fun h => absurd rfl h
    isplitl [H8]; · iexact H8
    iexact H9
  hout c := by
    rw [Pipeline.ownSems0_none, show (pdats V 1 c).Φ (Fin.last _) = inv1 V c cfg1.N from rfl]
    iintro ⟨⟨H0, H1, H2, H3, H4, H5⟩, %f8, %f9, -, H8, H9⟩
    isplitr; · iempintro
    isplitr; · iempintro
    iapply (of_eq (scopedRest1_eq (Ix := HIx 1) (Val := Elt F) (Name := ℕ) (U := UU) (Lvl := ℕ) c).symm)
    isplitl [H0]; · iexact H0
    isplitl [H1]; · iexact H1
    isplitl [H2]; · iexact H2
    isplitl [H3]; · iexact H3
    isplitl [H4]; · iexact H4
    isplitl [H5]; · iexact H5
    isplitl [H8]; · iexists f8; iexact H8
    iexists f9; iexact H9
  hexit c := by
    have hjoin := Pipeline.unscopedBufs_of_arrays (p := 1) (pcfgs (F := F)) adm (Ix := HIx 1) (Name := ℕ) (U := UU) (Lvl := ℕ) launch1.win launch1.arr_whole c
      (pdats V) ((pdats V 1 c).share_full fun _ => rfl) (V c) (Vp c) ((pdats V 1 c).arrAt · cfg1.N)
      (fun w => by
        fin_cases w
        · exact ((pdats V 1 c).arrAt_in 0 rfl _).trans (hne c main_arg1 (by decide) (by decide) (by decide)).symm
        · exact ((pdats V 1 c).arrAt_in 1 rfl _).trans (hne c main_v0_0 (by decide) (by decide) (by decide)).symm
        · exact ((pdats V 1 c).arrAt_in 2 rfl _).trans (hne c main_v0_4 (by decide) (by decide) (by decide)).symm
        · exact (final1_3 V c).trans (h3 c).symm
        · exact (final1_4 V c).trans (h4 c).symm
        · exact (final1_5 V c).trans (h5 c).symm)
      (fun b hb => hne c b (fun h => hb (h ▸ Finset.mem_image.mpr ⟨3, Finset.mem_univ _, rfl⟩)) (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · obtain ⟨w, i, rfl⟩ := h; exact le_rfl
    iexact HO

end Segments

end Cert.Proof.Regions

end
-- ==== Proof.Whole.lean ====
/-
  The whole program's run: the selection call, the mask call, the SparseCore call and the two slices, in order on every
  TensorCore, with what each result array then holds as a function of the two arguments.
-/
module

public import proofs.«01_k».proof.Proof.Regions

@[expose] public section

noncomputable section

namespace Cert.Proof.Whole

open Cert.KernelIdeal Cert.KernelIdeal.Gen

open Idealize.ShloMosaic
open Idealize.ShloMosaic.SparseCore.Cfg (HIx)
open Idealize.ShloMosaic.StableHlo (held wp_hlo_within)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Sc (UU EH EP K D 𝒱 v₀ P Arrays InRange rescored reads adm u₀ ghost)
open Cert.Proof.Regions (Vals owing semOf instOf ratiosOf pdats reg0 reg1)

variable {F : FTy → Type} [FloatOps F]

local notation "𝕄" => MT nD τ sig (HIx 1) (Elt F) ℕ UU ℕ

/-- An array of the program on device `d`. -/
abbrev L (b : Ref sig .tc) (d : Dev nD) : Loc nD τ sig := (SparseCore.T d).loc b

variable (m : (ℓ : Loc nD τ sig) → Buf (Elt F) ℓ) (ρ : Dev nD → PrngReg)

/-! ## What the arrays hold as the program goes on -/

/-- The two arguments. -/
abbrev logits (d : Dev nD) : FVec F S2x150x151 .f32 := m (L main_arg0 d)
abbrev masks (d : Dev nD) : FVec F S2x150x384x384 .f32 := m (L main_arg1 d)

/-- At the launch; after the selection call; after the mask call. -/
def V0 : Vals F := fun c b => m (L b c)
def VA : Vals F := fun c => Function.update (Function.update (Function.update (Function.update (Function.update (V0 m c)
  main_v0_0 (Topk.probsOf (logits m c))) main_v0_1 (Topk.valsOf (logits m c))) main_v0_2 (Topk.labelsOf (logits m c)))
  main_v0_3 (Topk.queriesOf (logits m c))) main_v0_4 (Topk.onehotOf (logits m c))
def VB : Vals F := fun c => Function.update (Function.update (Function.update (VA m c)
  main_v1_0 (semOf (masks m c) (Topk.probsOf (logits m c)))) main_v1_1 (instOf (masks m c) (Topk.onehotOf (logits m c)))) main_v1_2 (ratiosOf (masks m c))

theorem VA_v0_0 (c : Dev nD) : VA m c main_v0_0 = Topk.probsOf (logits m c) := rfl
theorem VA_v0_4 (c : Dev nD) : VA m c main_v0_4 = Topk.onehotOf (logits m c) := rfl
theorem VA_arg1 (c : Dev nD) : VA m c main_arg1 = masks m c := rfl
theorem VA_ne (c : Dev nD) (b : Ref sig .tc) (h0 : b ≠ main_v0_0) (h1 : b ≠ main_v0_1) (h2 : b ≠ main_v0_2) (h3 : b ≠ main_v0_3) (h4 : b ≠ main_v0_4) :
    VA m c b = V0 m c b := by
  unfold VA
  rw [Function.update_of_ne h4, Function.update_of_ne h3, Function.update_of_ne h2, Function.update_of_ne h1, Function.update_of_ne h0]
theorem VB_ne (c : Dev nD) (b : Ref sig .tc) (h0 : b ≠ main_v1_0) (h1 : b ≠ main_v1_1) (h2 : b ≠ main_v1_2) : VB m c b = VA m c b := by
  unfold VB
  rw [Function.update_of_ne h2, Function.update_of_ne h1, Function.update_of_ne h0]

/-- The arrays as the SparseCore call finds them. -/
def arrays : Arrays F where
  v d := Topk.valsOf (logits m d)
  q d := Topk.queriesOf (logits m d)
  r d := ratiosOf (masks m d)
  o d := m (L main_v2 d)

/-- The four results. -/
def outSem (d : Dev nD) : FVec F S2x150x384x384 .f32 := semOf (masks m d) (Topk.probsOf (logits m d))
def outInst (d : Dev nD) : FVec F S2x100x384x384 .f32 := instOf (masks m d) (Topk.onehotOf (logits m d))
def outScores (d : Dev nD) : FVec F S2x100 .f32 := extractStridedSlice S2x100 ![0, 0] (rescored (arrays m) d) slices_S2x128_S2x100_0_0
def outLabels (d : Dev nD) : IVec S2x100 32 := extractStridedSlice S2x100 ![0, 0] (Topk.labelsOf (logits m d)) slices_S2x128_S2x100_0_0

/-! ## The program on a TensorCore -/

theorem unscopedBufs_eq (d : Dev nD) (W : (b : Ref sig .tc) → Buf (Elt F) ((d.tc : Thread nD τ).loc b)) :
    (unscopedBufs d W : sProp 𝕄)
      = iprop((L main_arg0 d ↦{fullShare} W main_arg0) ∗ (L main_arg1 d ↦{fullShare} W main_arg1) ∗ (L main_v0_0 d ↦{fullShare} W main_v0_0) ∗ (L main_v0_1 d ↦{fullShare} W main_v0_1) ∗ (L main_v0_2 d ↦{fullShare} W main_v0_2) ∗ (L main_v0_3 d ↦{fullShare} W main_v0_3) ∗ (L main_v0_4 d ↦{fullShare} W main_v0_4) ∗ (L main_v1_0 d ↦{fullShare} W main_v1_0) ∗ (L main_v1_1 d ↦{fullShare} W main_v1_1) ∗ (L main_v1_2 d ↦{fullShare} W main_v1_2) ∗ (L main_v2 d ↦{fullShare} W main_v2) ∗ (L main_v3 d ↦{fullShare} W main_v3) ∗ (L main_v4 d ↦{fullShare} W main_v4)) := by
  unfold unscopedBufs
  rw [show (Finset.univ.filter fun b : Ref sig .tc => ¬ b.isScoped) = {main_arg0, main_arg1, main_v0_0, main_v0_1, main_v0_2, main_v0_3, main_v0_4, main_v1_0, main_v1_1, main_v1_2, main_v2, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What is left when both calls are done, array by array. -/
theorem unscopedBufs_VB (d : Dev nD) :
    (unscopedBufs d (VB m d) : sProp 𝕄)
      = iprop((L main_arg0 d ↦{fullShare} logits m d) ∗ (L main_arg1 d ↦{fullShare} masks m d) ∗ (L main_v0_0 d ↦{fullShare} VB m d main_v0_0)
          ∗ (L main_v0_1 d ↦{fullShare} (arrays m).v d) ∗ (L main_v0_2 d ↦{fullShare} Topk.labelsOf (logits m d)) ∗ (L main_v0_3 d ↦{fullShare} (arrays m).q d)
          ∗ (L main_v0_4 d ↦{fullShare} VB m d main_v0_4) ∗ (L main_v1_0 d ↦{fullShare} outSem m d) ∗ (L main_v1_1 d ↦{fullShare} outInst m d)
          ∗ (L main_v1_2 d ↦{fullShare} (arrays m).r d) ∗ (L main_v2 d ↦{fullShare} (arrays m).o d) ∗ (L main_v3 d ↦{fullShare} m (L main_v3 d)) ∗ (L main_v4 d ↦{fullShare} m (L main_v4 d))) :=
  unscopedBufs_eq d _

/-- The two slices. -/
abbrev r2 : DevRef τ sig := Proc.devRef .tc (main_v2 : Ref sig .tc)
abbrev r3 : DevRef τ sig := Proc.devRef .tc (main_v3 : Ref sig .tc)
abbrev r02 : DevRef τ sig := Proc.devRef .tc (main_v0_2 : Ref sig .tc)
abbrev r4 : DevRef τ sig := Proc.devRef .tc (main_v4 : Ref sig .tc)
abbrev opScores : HloOp τ sig (Elt F) :=
  StableHlo.unary main_v2 main_v3 ((extractStridedSlice S2x100 ![0, 0] · slices_S2x128_S2x100_0_0) : (⟨S2x128, .f32⟩ : BufTy).Contents (Elt F) → (⟨S2x100, .f32⟩ : BufTy).Contents (Elt F))
abbrev opLabels : HloOp τ sig (Elt F) :=
  StableHlo.unary main_v0_2 main_v4 ((extractStridedSlice S2x100 ![0, 0] · slices_S2x128_S2x100_0_0) : (⟨S2x128, .i32⟩ : BufTy).Contents (Elt F) → (⟨S2x100, .i32⟩ : BufTy).Contents (Elt F))

theorem held_scores (d : Dev nD) (W : Valuation τ sig (Elt F)) :
    (held (SparseCore.T d) {r2, r3} W : sProp 𝕄) = iprop((L main_v2 d ↦{fullShare} W r2) ∗ L main_v3 d ↦{fullShare} W r3) := by
  unfold held
  rw [SparseCore.bigSep_insert' (by decide), bigSep_singleton]
theorem held_labels (d : Dev nD) (W : Valuation τ sig (Elt F)) :
    (held (SparseCore.T d) {r02, r4} W : sProp 𝕄) = iprop((L main_v0_2 d ↦{fullShare} W r02) ∗ L main_v4 d ↦{fullShare} W r4) := by
  unfold held
  rw [SparseCore.bigSep_insert' (by decide), bigSep_singleton]

/-- The contents the two slices are taken at: the rescored scores, and the labels. -/
def Vs (d : Dev nD) : Valuation τ sig (Elt F) := Function.update (fun b => m (d, b)) r2 (rescored (arrays m) d)
theorem Vs_2 (d : Dev nD) : Vs m d r2 = rescored (arrays m) d := Function.update_self _ _ _
theorem Vs_3 (d : Dev nD) : Vs m d r3 = m (L main_v3 d) := Function.update_of_ne (show r3 ≠ r2 by decide) _ _
def Vl (d : Dev nD) : Valuation τ sig (Elt F) := Function.update (fun b => m (d, b)) r02 (Topk.labelsOf (logits m d))
theorem Vl_02 (d : Dev nD) : Vl m d r02 = Topk.labelsOf (logits m d) := Function.update_self _ _ _
theorem Vl_4 (d : Dev nD) : Vl m d r4 = m (L main_v4 d) := Function.update_of_ne (show r4 ≠ r02 by decide) _ _

theorem hScores : (opScores (F := F)).bufs ⊆ {r2, r3} := show ({r2, r3} : Finset (DevRef τ sig)) ⊆ {r2, r3} from subset_rfl
theorem hLabels : (opLabels (F := F)).bufs ⊆ {r02, r4} := show ({r02, r4} : Finset (DevRef τ sig)) ⊆ {r02, r4} from subset_rfl
theorem scores_result (d : Dev nD) : (opScores (F := F)).result (Vs m d) r3 = outScores m d :=
  (StableHlo.unary_result _ _ _ _ _ _).trans (by rw [Vs_2]; rfl)
theorem labels_result (d : Dev nD) : (opLabels (F := F)).result (Vl m d) r4 = outLabels m d :=
  (StableHlo.unary_result _ _ _ _ _ _).trans (by rw [Vl_02]; rfl)

/-- What the program leaves the claims: the arguments as at the launch, and the results. -/
abbrev FIN (d : Dev nD) : sProp 𝕄 :=
  iprop((L main_arg0 d ↦{fullShare} m (L main_arg0 d)) ∗ (L main_arg1 d ↦{fullShare} m (L main_arg1 d)) ∗ (L main_v1_0 d ↦{fullShare} outSem m d) ∗ (L main_v1_1 d ↦{fullShare} outInst m d) ∗ (L main_v3 d ↦{fullShare} outScores m d) ∗ (L main_v4 d ↦{fullShare} outLabels m d))

/-- The selection call as a region of the program, and the mask call. -/
abbrev R0 := reg0 (V0 m) (VA m) (fun _ => rfl) (fun _ => rfl) (fun _ => rfl) (fun _ => rfl) (fun _ => rfl) (VA_ne m)
abbrev R1 := reg1 (VA m) (VB m) (fun _ => rfl) (fun _ => rfl) (fun _ => rfl) (VB_ne m)

theorem R0_pre (d : Dev nD) : (R0 m).pre d = iprop(unscopedBufs d (V0 m d) ∗ owing (F := F) d) := rfl
theorem R0_post (d : Dev nD) : (R0 m).post d = iprop(unscopedBufs d (VA m d) ∗ owing (F := F) d) := rfl
theorem R1_pre (d : Dev nD) : (R1 m).pre d = iprop(unscopedBufs d (VA m d) ∗ owing (F := F) d) := rfl
theorem R1_post (d : Dev nD) : (R1 m).post d = iprop(unscopedBufs d (VB m d) ∗ owing (F := F) d) := rfl

/-- A TensorCore call of the program, entered from the program with the SparseCore's labels around it. -/
theorem enter0 (d : Dev nD) (Q : PUnit → sProp 𝕄) :
    wp frame (wpE (D (F := F)) 𝒱 (SparseCore.T d) none) Set.univ (.op (.customCall (Pipeline.entry 0) ()) .ret) Q
      ⊢ wp frame (wpE ((K (F := F)).defs (D (F := F))) 𝒱 (SparseCore.T d) none) Set.univ (Prog.lift (.customCall (SparseCore.inner (Pipeline.entry 0)) ())) Q :=
  (K (F := F)).wp_liftProg (D (F := F)) 𝒱 (SparseCore.T d) Set.univ none (.op (.customCall (Pipeline.entry 0) ()) .ret) Q
theorem enter1 (d : Dev nD) (Q : PUnit → sProp 𝕄) :
    wp frame (wpE (D (F := F)) 𝒱 (SparseCore.T d) none) Set.univ (.op (.customCall (Pipeline.entry 1) ()) .ret) Q
      ⊢ wp frame (wpE ((K (F := F)).defs (D (F := F))) 𝒱 (SparseCore.T d) none) Set.univ (Prog.lift (.customCall (SparseCore.inner (Pipeline.entry 1)) ())) Q :=
  (K (F := F)).wp_liftProg (D (F := F)) 𝒱 (SparseCore.T d) Set.univ none (.op (.customCall (Pipeline.entry 1) ()) .ret) Q

/-- What a TensorCore holds of the launch before the SparseCore call, what it owes split off. -/
theorem tcSt0_eq (d : Dev nD) : (K (F := F)).tcSt EH d 0 = iprop(owing (F := F) d
    ∗ atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1))) := rfl

variable [∀ e, Nonempty (Elt F e)]

/-- The program on device `d`'s TensorCore: the three calls on its arrays, and the slices. -/
theorem hmain (κ : GSem nD τ sig → ℕ) (d : Dev nD) :
    iprop((K (F := F)).ctx EH (P (arrays m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  rw [tcSt0_eq]
  iintro ⟨#Hctx, ⟨Howe, Htc⟩, ⟨Hb, Hub, Hts, -⟩, ⟨Hc0, Ht0⟩, Hc1, Ht1⟩
  ihave #Hlev := (K (F := F)).ctx_levAts $$ Hctx
  iapply (enter0 d _)
  iapply (Pipeline.RegionSeg.wp (pcfgs (F := F)) adm (pdats (V0 m)) (none : HIx 1) cellOf_inj EP defs₀ Variants.none (K (F := F)).L (K (F := F)).lev (R0 m) d none (fun _ h => nomatch h) .ret _)
  rw [R0_pre, R0_post]
  isplitr [Hb Hub Howe Hc0 Ht0]
  swap
  · isplitl [Hb]; · iexact Hb
    isplitl [Hub Howe]
    · isplitl [Hub]; · iexact Hub
      iexact Howe
    isplitr; · iexact Hlev
    isplitl [Hc0]; · iexact Hc0
    iexact Ht0
  iintro ⟨Hb, Hub, Howe⟩
  rw [wp_ret]; imodintro
  iapply (enter1 d _)
  iapply (Pipeline.RegionSeg.wp (pcfgs (F := F)) adm (pdats (VA m)) (none : HIx 1) cellOf_inj EP defs₀ Variants.none (K (F := F)).L (K (F := F)).lev (R1 m) d none (fun _ h => nomatch h) .ret _)
  rw [R1_pre, R1_post]
  isplitr [Hb Hub Howe Hc1 Ht1]
  swap
  · isplitl [Hb]; · iexact Hb
    isplitl [Hub Howe]
    · isplitl [Hub]; · iexact Hub
      iexact Howe
    isplitr; · iexact Hlev
    isplitl [Hc1]; · iexact Hc1
    iexact Ht1
  iintro ⟨Hb, Hub, Howe⟩
  rw [wp_ret]; imodintro
  ihave Hall := (Regions.of_eq (unscopedBufs_VB m d)) $$ Hub
  icases Hall with ⟨Ha0, Ha1, -, Hv, Hlab, Hq, -, Hsem, Hinst, Hr, Ho, H3, H4⟩
  iapply ((K (F := F)).wp_run (D (F := F)) 𝒱 (EH := EH) (P := P (arrays m)) κ d 0) $$ [Howe Htc Hv Hq Hr Ho Hb Hts Ha0 Ha1 Hlab Hsem Hinst H3 H4]
  isplitr; · iexact Hctx
  isplitl [Howe Htc]
  · rw [show (K (F := F)).tcSt EH d (0 : Fin 1).val = (K (F := F)).tcSt EH d 0 from rfl, tcSt0_eq]
    isplitl [Howe]; · iexact Howe
    iexact Htc
  isplitl [Hv Hq Hr Ho]
  · rw [Sc.st0_eq]
    unfold reads
    isplitr [Ho]
    · isplitl [Hv]; · iexact Hv
      isplitl [Hq]; · iexact Hq
      iexact Hr
    iexact Ho
  iintro ⟨Hst, Hdn⟩
  ihave Hdn' := (Regions.of_eq (Sc.dn0_eq (arrays m) d)) $$ Hdn
  icases Hdn' with ⟨-, Ho⟩
  iapply (wp_hlo_within 𝒱 (SparseCore.T d) none Set.univ (op := opScores) (S := {r2, r3}) hScores (V := Vs m d)) $$ [Hb Ho H3]
  · isplitl [Hb]; · iexact Hb
    rw [held_scores, Vs_2, Vs_3]
    isplitl [Ho]; · iexact Ho
    iexact H3
  iintro ⟨Hb, Hheld⟩
  ihave Hh := (Regions.of_eq (held_scores (F := F) d _)) $$ Hheld
  rw [scores_result]
  icases Hh with ⟨-, H3⟩
  rw [wp_ret]; imodintro
  iapply (wp_hlo_within 𝒱 (SparseCore.T d) none Set.univ (op := opLabels) (S := {r02, r4}) hLabels (V := Vl m d)) $$ [Hb Hlab H4]
  · isplitl [Hb]; · iexact Hb
    rw [held_labels, Vl_02, Vl_4]
    isplitl [Hlab]; · iexact Hlab
    iexact H4
  iintro ⟨Hb, Hheld⟩
  ihave Hh := (Regions.of_eq (held_labels (F := F) d _)) $$ Hheld
  rw [labels_result]
  icases Hh with ⟨-, H4⟩
  rw [wp_ret]; imodintro; imodintro
  isplitl [Hst]; · iexact Hst
  isplitr [Hb Hts]
  · isplitl [Ha0]; · iexact Ha0
    isplitl [Ha1]; · iexact Ha1
    isplitl [Hsem]; · iexact Hsem
    isplitl [Hinst]; · iexact Hinst
    isplitl [H3]; · iexact H3
    iexact H4
  isplitl [Hb] <;> iassumption

/-- What the claims read of device `d`'s final state. -/
def fq (d : Dev nD) (s' : Phys nD τ sig (Elt F)) : Prop :=
  s'.mem.mem (L main_arg0 d) = m (L main_arg0 d) ∧ s'.mem.mem (L main_arg1 d) = m (L main_arg1 d) ∧ s'.mem.mem (L main_v1_0 d) = outSem m d ∧ s'.mem.mem (L main_v1_1 d) = outInst m d ∧ s'.mem.mem (L main_v3 d) = outScores m d ∧ s'.mem.mem (L main_v4 d) = outLabels m d

theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (persistent_entails_right (SI_pointsTo_agree (st := s') (ℓ := L main_arg0 d) (I := Finset.univ) (q := fullShare) (f := m (L main_arg0 d)))) $$ [HSI H0]
  · isplitl [HSI] <;> iassumption
  icases H with ⟨%h0, HSI, -⟩
  ihave H := (persistent_entails_right (SI_pointsTo_agree (st := s') (ℓ := L main_arg1 d) (I := Finset.univ) (q := fullShare) (f := m (L main_arg1 d)))) $$ [HSI H1]
  · isplitl [HSI] <;> iassumption
  icases H with ⟨%h1, HSI, -⟩
  ihave H := (persistent_entails_right (SI_pointsTo_agree (st := s') (ℓ := L main_v1_0 d) (I := Finset.univ) (q := fullShare) (f := outSem m d))) $$ [HSI H2]
  · isplitl [HSI] <;> iassumption
  icases H with ⟨%h2, HSI, -⟩
  ihave H := (persistent_entails_right (SI_pointsTo_agree (st := s') (ℓ := L main_v1_1 d) (I := Finset.univ) (q := fullShare) (f := outInst m d))) $$ [HSI H3]
  · isplitl [HSI] <;> iassumption
  icases H with ⟨%h3, HSI, -⟩
  ihave H := (persistent_entails_right (SI_pointsTo_agree (st := s') (ℓ := L main_v3 d) (I := Finset.univ) (q := fullShare) (f := outScores m d))) $$ [HSI H4]
  · isplitl [HSI] <;> iassumption
  icases H with ⟨%h4, HSI, -⟩
  ihave H := (persistent_entails_right (SI_pointsTo_agree (st := s') (ℓ := L main_v4 d) (I := Finset.univ) (q := fullShare) (f := outLabels m d))) $$ [HSI H5]
  · isplitl [HSI] <;> iassumption
  icases H with ⟨%h5, HSI, -⟩
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i)⟩

/-- After the run: the arguments unchanged, the results as stated, nothing left in flight. -/
def QC : PUnit × MemSt nD τ sig (Elt F) → Prop := fun r =>
  (∀ c : Dev nD, r.2.mem (L main_arg0 c) = m (L main_arg0 c) ∧ r.2.mem (L main_arg1 c) = m (L main_arg1 c) ∧ r.2.mem (L main_v1_0 c) = outSem m c ∧ r.2.mem (L main_v1_1 c) = outInst m c ∧ r.2.mem (L main_v3 c) = outScores m c ∧ r.2.mem (L main_v4 c) = outLabels m c)
    ∧ r.2.sem = fun _ => 0

/-- Where the selected query numbers are in range, every run of the program ends, with its results as stated. -/
theorem run_main (hA : InRange (arrays m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (arrays m)) (A := ∅) Sc.facts v₀
    (fun q hq => match q with | 0 => nomatch hq)
    (fun q _ => match q with | 0 => Sc.tileObl (arrays m) Sc.facts hA)
    (fun q _ => match q with | 0 => SparseCore.Cfg.VecSplit.of_plain (Sc.vecSplit (arrays m)))
    m ρ main (fun d => ghost (F := F) d) (FIN m) (u₀ (F := F)) (sep_elim_left.trans (Sc.hu₀ (arrays m))) (hmain m ρ) (fq m) (hfin m) (QC m) (fun _ h hz => ⟨h, hz⟩)

end Cert.Proof.Whole

end
-- ==== Proof.Pick.lean ====
/-
  The pure part of the selection: a table of extended reals, the first of its greatest entries, and what a hundred
  rounds of "take the first of the greatest, then mark it" take, in order: the first hundred of the table's entries
  sorted by value, greatest first, equal values by position.
-/
module

public import Idealize.ShloMosaic.Lib.Pointwise
public import Idealize.ShloMosaic.Lib.SortPrefix

@[expose] public section

noncomputable section

namespace Cert.Proof.Pick

open Idealize.ShloMosaic

/-- A table of 150 rows and 150 columns. -/
abbrev Tab : Type := Fin 150 → Fin 150 → EReal

/-- A place in the table, and its number in row-major order. -/
abbrev Place : Type := Fin 150 × Fin 150
def num (s : Place) : ℕ := 150 * s.1.val + s.2.val
theorem num_lt (s : Place) : num s < 22500 := by unfold num; have := s.1.isLt; have := s.2.isLt; omega
theorem num_inj {s t : Place} (h : num s = num t) : s = t := by
  unfold num at h
  have := s.1.isLt; have := s.2.isLt; have := t.1.isLt; have := t.2.isLt
  exact Prod.ext (Fin.ext (by omega)) (Fin.ext (by omega))

/-- The place of a number. -/
def place (n : Fin 22500) : Place := (⟨n.val / 150, by omega⟩, ⟨n.val % 150, by omega⟩)
theorem num_place (n : Fin 22500) : num (place n) = n.val := by unfold num place; simp only []; omega
theorem place_num (s : Place) : place ⟨num s, num_lt s⟩ = s := num_inj (num_place _)

/-- The mark put on an entry that is taken. -/
def mark : EReal := Ideal.ofBits .f32 0xBF800000#32
theorem mark_neg : mark < 0 := by
  unfold mark
  rw [show Ideal.ofBits .f32 0xBF800000#32 = ((-(1 : ℝ)) : EReal) by
    simp [Ideal.ofBits, Ideal.ieee, -EReal.coe_mul, -EReal.coe_neg]; norm_num]
  exact EReal.coe_neg'.mpr (by norm_num)

/-- The word of minus infinity is the least extended real. -/
theorem ofBits_bot : Ideal.ofBits .f32 0xFF800000#32 = ⊥ := by simp [Ideal.ofBits, Ideal.ieee]

/-! ## Folds -/

/-- The greatest of 150 entries is one of them. -/
theorem fold_max (f : Fin 150 → EReal) (B : EReal) (hB : B = ⊥) : ∃ q, Finset.univ.fold max B f = f q ∧ ∀ q', f q' ≤ f q := by
  obtain ⟨q, -, hq⟩ := Finset.exists_max_image (Finset.univ : Finset (Fin 150)) f ⟨0, Finset.mem_univ _⟩
  refine ⟨q, le_antisymm ?_ ?_, fun q' => hq q' (Finset.mem_univ _)⟩
  · exact (Finset.fold_max_le _).2 ⟨hB ▸ bot_le, fun q' _ => hq q' (Finset.mem_univ _)⟩
  · exact (Finset.le_fold_max _).2 (.inr ⟨q, Finset.mem_univ _, le_rfl⟩)

theorem toInt_minsi (a b : BitVec 32) : (IntOp.minsi a b).toInt = min a.toInt b.toInt := by
  unfold IntOp.minsi
  simp only [BitVec.slt_eq_decide, decide_eq_true_eq]
  split <;> omega

/-- The signed least of 150 words and a bound is the word that none of them, nor the bound, is under. -/
theorem fold_minsi (f : Fin 150 → BitVec 32) (B : BitVec 32) (q : Fin 150) (hq : ∀ q', (f q).toInt ≤ (f q').toInt) (hB : (f q).toInt ≤ B.toInt) :
    Finset.univ.fold IntOp.minsi B f = f q := by
  apply BitVec.eq_of_toInt_eq
  have h := Finset.fold_hom (op := IntOp.minsi (w := 32)) (op' := (min : ℤ → ℤ → ℤ)) (b := B) (f := f) (s := (Finset.univ : Finset (Fin 150)))
    (m := BitVec.toInt) (fun a b => toInt_minsi a b)
  rw [← h]
  refine le_antisymm ?_ ?_
  · exact (Finset.fold_min_le _).2 (.inr ⟨q, Finset.mem_univ _, le_rfl⟩)
  · exact (Finset.le_fold_min _).2 ⟨hB, fun q' _ => hq q'⟩

theorem toInt_small (n : ℕ) (h : n < 2147483648) : (BitVec.ofNat 32 n).toInt = n := by
  rw [BitVec.toInt_eq_toNat_cond, BitVec.toNat_ofNat]
  have : n % 2 ^ 32 = n := Nat.mod_eq_of_lt (by omega)
  rw [this, if_pos (by omega)]

/-- The least number, of those with a property, that some of the 150 has: the fold of their numbers with the bound in
    place of the others. -/
theorem fold_least (P : Fin 150 → Prop) [DecidablePred P] (g : Fin 150 → ℕ) (hg : ∀ q, g q < 22500) (q : Fin 150) (hP : P q)
    (hq : ∀ q', P q' → g q ≤ g q') :
    Finset.univ.fold IntOp.minsi 2147483647#32 (fun q' => if P q' then BitVec.ofNat 32 (g q') else 2147483647#32) = BitVec.ofNat 32 (g q) := by
  have hb : (2147483647#32).toInt = 2147483647 := by decide
  rw [fold_minsi _ _ q, if_pos hP]
  · intro q'
    rw [if_pos hP, toInt_small _ (by have := hg q; omega)]
    split
    · rename_i h
      rw [toInt_small _ (by have := hg q'; omega)]
      exact_mod_cast hq q' h
    · rw [hb]; have := hg q; omega
  · rw [if_pos hP, toInt_small _ (by have := hg q; omega), hb]; have := hg q; omega

/-! ## The first of the greatest -/

/-- What the kernel keeps of a column: its greatest entry, and the first row that has it. -/
def Top (f : Fin 150 → EReal) (v : EReal) (w : BitVec 32) : Prop :=
  ∃ q : Fin 150, w = BitVec.ofNat 32 q.val ∧ v = f q ∧ (∀ q', f q' ≤ f q) ∧ ∀ q', f q' = f q → q ≤ q'

/-- A column's greatest entry and its first row, folded. -/
theorem top_fold (f : Fin 150 → EReal) (B : EReal) (hB : B = ⊥) :
    Top f (Finset.univ.fold max B f)
      (Finset.univ.fold IntOp.minsi 2147483647#32 fun q => if f q = Finset.univ.fold max B f then BitVec.ofNat 32 q.val else 2147483647#32) := by
  obtain ⟨q₁, h₁, hm⟩ := fold_max f B hB
  rw [h₁]
  obtain ⟨q, hq, hmin⟩ := Finset.exists_min_image (Finset.univ.filter fun q => f q = f q₁) id ⟨q₁, by simp⟩
  have hq : f q = f q₁ := by simpa using hq
  refine ⟨q, fold_least (fun q => f q = f q₁) (fun q => q.val) (fun q => by have := q.isLt; omega) q hq fun q' h' => ?_, hq.symm, fun q' => hq ▸ hm q', fun q' h' => ?_⟩
  · exact hmin q' (by simpa using h')
  · exact hmin q' (by simpa [hq] using h')

/-- The place is the first of the greatest entries of the table. -/
def First (x : Tab) (s : Place) : Prop :=
  (∀ t : Place, x t.1 t.2 ≤ x s.1 s.2) ∧ ∀ t : Place, x t.1 t.2 = x s.1 s.2 → num s ≤ num t

theorem First.unique {x : Tab} {s t : Place} (hs : First x s) (ht : First x t) : s = t :=
  num_inj (le_antisymm (hs.2 t (le_antisymm (hs.1 t) (ht.1 s))) (ht.2 s (le_antisymm (ht.1 s) (hs.1 t))))

theorem exists_first (x : Tab) : ∃ s, First x s := by
  obtain ⟨s₁, -, h₁⟩ := Finset.exists_max_image (Finset.univ : Finset Place) (fun s => x s.1 s.2) ⟨(0, 0), Finset.mem_univ _⟩
  obtain ⟨s, hs, hmin⟩ := Finset.exists_min_image (Finset.univ.filter fun s : Place => x s.1 s.2 = x s₁.1 s₁.2) num ⟨s₁, by simp⟩
  have hs : x s.1 s.2 = x s₁.1 s₁.2 := by simpa using hs
  exact ⟨s, fun t => hs ▸ h₁ t (Finset.mem_univ _), fun t ht => hmin t (by simpa [hs] using ht)⟩

/-- The first of the greatest entries. -/
def first (x : Tab) : Place := (exists_first x).choose
theorem first_spec (x : Tab) : First x (first x) := (exists_first x).choose_spec

/-- The greatest of the columns' greatest entries, and the least number among the columns that have it. -/
theorem first_fold (x : Tab) (v : Fin 150 → EReal) (w : Fin 150 → BitVec 32) (h : ∀ c, Top (fun q => x q c) (v c) (w c)) (B : EReal) (hB : B = ⊥) :
    Finset.univ.fold max B v = x (first x).1 (first x).2
      ∧ Finset.univ.fold IntOp.minsi 2147483647#32 (fun c => if v c = Finset.univ.fold max B v then IntOp.addi (IntOp.muli (w c) 150#32) (BitVec.ofNat 32 c.val) else 2147483647#32)
          = BitVec.ofNat 32 (num (first x)) := by
  choose Q hw hv hmax hfirst using h
  replace hv : ∀ c, v c = x (Q c) c := hv
  obtain ⟨c₁, h₁, hm⟩ := fold_max v B hB
  rw [h₁]
  obtain ⟨c, hc, hmin⟩ := Finset.exists_min_image (Finset.univ.filter fun c => v c = v c₁) (fun c => num (Q c, c)) ⟨c₁, by simp⟩
  have hc : v c = v c₁ := by simpa using hc
  have hF : First x (Q c, c) := by
    refine ⟨fun t => ?_, fun t ht => ?_⟩
    · calc x t.1 t.2 ≤ x (Q t.2) t.2 := hmax t.2 t.1
        _ = v t.2 := (hv t.2).symm
        _ ≤ v c := hc ▸ hm t.2
        _ = x (Q c) c := hv c
    · have ht : x t.1 t.2 = x (Q c) c := ht
      have e1 : v t.2 = v c := le_antisymm (hc ▸ hm t.2) ((hv c).trans ht.symm |>.le.trans ((hmax t.2 t.1).trans (hv t.2).symm.le))
      have e2 : Q t.2 ≤ t.1 := hfirst t.2 t.1 (by show x t.1 t.2 = x (Q t.2) t.2; rw [ht, ← hv c, ← e1, hv t.2])
      have e3 := hmin t.2 (by simpa using e1.trans hc)
      unfold num at e3 ⊢
      have e2' : (Q t.2).val ≤ t.1.val := e2
      simp only [] at e3 ⊢
      omega
  rw [(first_spec x).unique hF]
  refine ⟨hc ▸ hv c, ?_⟩
  rw [show (fun c => if v c = v c₁ then IntOp.addi (IntOp.muli (w c) 150#32) (BitVec.ofNat 32 c.val) else 2147483647#32)
      = fun c => if v c = v c₁ then BitVec.ofNat 32 (num (Q c, c)) else 2147483647#32 from funext fun c => by
    split
    · rw [hw c]
      apply BitVec.eq_of_toNat_eq
      unfold IntOp.addi IntOp.muli num
      simp only [BitVec.toNat_add, BitVec.toNat_mul, BitVec.toNat_ofNat]
      have := (Q c).isLt; have := c.isLt
      omega
    · rfl]
  exact fold_least (fun c => v c = v c₁) (fun c => num (Q c, c)) (fun c => num_lt _) c hc fun c' h' => hmin c' (by simpa using h')

/-! ## The rounds -/

/-- The table with an entry marked. -/
def take (x : Tab) (s : Place) : Tab := fun q c => if q = s.1 ∧ c = s.2 then mark else x q c

/-- The table after `k` rounds, and the place round `k` takes. -/
def left (p : Tab) : ℕ → Tab
  | 0 => p
  | k + 1 => take (left p k) (first (left p k))
def taken (p : Tab) (k : ℕ) : Place := first (left p k)

/-- An entry not taken yet is the table's own; one taken is the mark. -/
theorem left_of_not (p : Tab) (k : ℕ) (s : Place) (h : ∀ i < k, taken p i ≠ s) : left p k s.1 s.2 = p s.1 s.2 := by
  induction k with
  | zero => rfl
  | succ k ih =>
    show (if s.1 = (taken p k).1 ∧ s.2 = (taken p k).2 then mark else left p k s.1 s.2) = _
    rw [if_neg fun e => h k (Nat.lt_succ_self k) (Prod.ext e.1.symm e.2.symm), ih fun i hi => h i (by omega)]
theorem left_of_taken (p : Tab) (k i : ℕ) (h : i < k) : left p k (taken p i).1 (taken p i).2 = mark := by
  induction k with
  | zero => omega
  | succ k ih =>
    show (if (taken p i).1 = (taken p k).1 ∧ (taken p i).2 = (taken p k).2 then mark else left p k (taken p i).1 (taken p i).2) = _
    split
    · rfl
    · rename_i hne
      refine ih (lt_of_le_of_ne (by omega) fun e => hne ?_)
      subst e; exact ⟨rfl, rfl⟩

variable {p : Tab} (hp : ∀ q c, 0 ≤ p q c)
include hp

/-- While any entry is left, a round takes an entry not taken before, -/
theorem taken_new {k : ℕ} (hk : k < 22500) {i : ℕ} (hi : i < k) : taken p i ≠ taken p k := by
  intro e
  obtain ⟨s, hs⟩ : ∃ s : Place, ∀ i < k, taken p i ≠ s := by
    by_contra hall
    push Not at hall
    have hsub : (Finset.univ : Finset Place) ⊆ (Finset.range k).image (taken p) := fun s _ => by
      obtain ⟨i, hi, e⟩ := hall s
      exact Finset.mem_image.2 ⟨i, Finset.mem_range.2 hi, e⟩
    have h1 := Finset.card_le_card hsub
    have h2 := (Finset.card_image_le (s := Finset.range k) (f := taken p))
    rw [Finset.card_range] at h2
    rw [Finset.card_univ, Fintype.card_prod, Fintype.card_fin] at h1
    omega
  have h1 := (first_spec (left p k)).1 s
  rw [left_of_not p k s hs] at h1
  have h2 := left_of_taken p k i hi
  rw [e] at h2
  have h3 : p s.1 s.2 ≤ mark := h2 ▸ h1
  exact absurd (lt_of_le_of_lt (hp s.1 s.2) (lt_of_le_of_lt h3 mark_neg)) (lt_irrefl _)

/-- the first of the greatest of those not taken. -/
theorem taken_first {k : ℕ} (hk : k < 22500) (s : Place) (hs : ∀ i < k, taken p i ≠ s) :
    p s.1 s.2 ≤ p (taken p k).1 (taken p k).2 ∧ (p s.1 s.2 = p (taken p k).1 (taken p k).2 → num (taken p k) ≤ num s) := by
  have h := first_spec (left p k)
  have h1 := h.1 s
  have h2 := h.2 s
  have e := left_of_not p k (taken p k) fun i hi => taken_new hp hk hi
  unfold taken at e ⊢
  rw [left_of_not p k s hs, e] at h1 h2
  exact ⟨h1, h2⟩

/-- The value a round finds is the table's own at the place it takes. -/
theorem left_taken {k : ℕ} (hk : k < 22500) : left p k (taken p k).1 (taken p k).2 = p (taken p k).1 (taken p k).2 :=
  left_of_not p k _ fun _ hi => taken_new hp hk hi

omit hp in
/-- A stable sort of positions in order breaks ties by position. -/
theorem stableSort_ties {n : ℕ} (B B' : Fin n → Fin n → Bool) (h : ∀ a b, a < b → B b a = B' b a) (l : List (Fin n)) (hl : l.Pairwise (· < ·)) :
    stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

omit hp in
theorem sortedFrom_ties {n : ℕ} (B B' : Fin n → Fin n → Bool) (h : ∀ a b, a < b → B b a = B' b a) : sortedFrom B = sortedFrom B' := by
  funext k
  unfold sortedFrom
  rw [List.get_of_eq (show sortPositions n B = sortPositions n B' from stableSort_ties B B' h _ (List.pairwise_lt_finRange n))]
  rfl

/-- So the entries sorted by value, greatest first, equal ones by position, begin with those the rounds take. -/
theorem sorted_taken (B : Fin 22500 → Fin 22500 → Bool)
    (hB : ∀ n n', B n n' = decide (p (place n').1 (place n').2 < p (place n).1 (place n).2)) (i : Fin 100) :
    sortedFrom B (i.castLE (by omega)) = ⟨num (taken p i.val), num_lt _⟩ := by
  set key : Fin 22500 → EReal := fun n => p (place n).1 (place n).2 with hkey
  set B' : Fin 22500 → Fin 22500 → Bool := fun n n' => decide (key n' < key n) || (decide (key n = key n') && decide (n < n')) with hB'
  have hS : StrictTotalBefore B' := StrictTotalBefore.of_key_then_position (fun a b : EReal => decide (b < a)) key
    (fun a => by simp) (fun a b c h1 h2 => by simp only [decide_eq_true_eq] at *; exact lt_trans h2 h1)
    (fun a b => by simp only [decide_eq_true_eq]; rcases lt_trichotomy a b with h | h | h <;> simp [h])
  have hsort : sortedFrom B = sortedFrom B' := sortedFrom_ties B B' fun a b hab => by
    rw [hB, hB']
    simp [not_lt_of_gt hab, hkey]
  rw [hsort]
  have hkt : ∀ s : Place, key ⟨num s, num_lt s⟩ = p s.1 s.2 := fun s => by rw [hkey]; simp only [place_num]
  refine hS.sortedFrom_eq_of_prefix (k := 100) (by omega) (fun j : Fin 100 => ⟨num (taken p j.val), num_lt _⟩) ?_ ?_ ?_ i
  · intro a b hab
    have e := num_inj (Fin.mk.inj hab)
    rcases lt_trichotomy a.val b.val with h | h | h
    · exact absurd e (taken_new hp (by have := b.isLt; omega) h)
    · exact Fin.ext h
    · exact absurd e.symm (taken_new hp (by have := a.isLt; omega) h)
  · intro a b hab
    have hn : ∀ i < a.val, taken p i ≠ taken p b.val := fun i hi => taken_new hp (by have := b.isLt; omega) (lt_trans hi hab)
    have h := taken_first hp (k := a.val) (by have := a.isLt; omega) (taken p b.val) hn
    have hne : num (taken p a.val) ≠ num (taken p b.val) := fun e => taken_new hp (by have := b.isLt; omega) hab (num_inj e)
    simp only [hB', hkt, Bool.or_eq_false_iff, Bool.and_eq_false_iff, decide_eq_false_iff_not, not_lt]
    refine ⟨h.1, ?_⟩
    by_cases e : p (taken p b.val).1 (taken p b.val).2 = p (taken p a.val).1 (taken p a.val).2
    · exact .inr (Fin.mk_le_mk.2 (h.2 e))
    · exact .inl e
  · intro a n hn
    have hn' : ∀ i < a.val, taken p i ≠ place n := fun i hi e => hn ⟨i, by have := a.isLt; omega⟩ (Fin.ext (by
      show num (taken p i) = n.val; rw [e, num_place]))
    have h := taken_first hp (k := a.val) (by have := a.isLt; omega) (place n) hn'
    simp only [hB', hkt, Bool.or_eq_false_iff, Bool.and_eq_false_iff, decide_eq_false_iff_not, not_lt]
    refine ⟨h.1, ?_⟩
    by_cases e : p (place n).1 (place n).2 = p (taken p a.val).1 (taken p a.val).2
    · exact .inr (by have h2 := h.2 e; rw [num_place] at h2; exact h2)
    · exact .inl e

end Cert.Proof.Pick

end
-- ==== Proof.Select.lean ====
/-
  What the selection call computes, at the extended reals: its loop takes, a hundred times, the first of the greatest
  entries of the score table, and keeps each entry's value and number.
-/
module

public import proofs.«01_k».proof.Proof.Topk
public import proofs.«01_k».proof.Proof.Pick
public import Idealize.ShloMosaic.Lib.Routing.Words

@[expose] public section

noncomputable section

namespace Cert.Proof.Select

open Cert.KernelIdeal Cert.KernelIdeal.Gen
open Idealize.ShloMosaic
open Cert.Proof.Topk (trip rampQ rampC rampK last probsOf valsOf labelsOf queriesOf onehotOf)
open Cert.Proof.Pick

/-! ## Words -/

theorem slt_zero (n : ℕ) (h : n < 2147483648) : IntOp.cmpi .slt (BitVec.ofNat 32 n) 0#32 = 0#1 := by
  show BitVec.ofBool ((BitVec.ofNat 32 n).slt 0#32) = 0#1
  rw [BitVec.slt_eq_decide, toInt_small n h, BitVec.toInt_zero, decide_eq_false (by omega)]; rfl
theorem sgt_zero (n : ℕ) (h : n < 2147483648) (h0 : 0 < n) : IntOp.cmpi .sgt (BitVec.ofNat 32 n) 0#32 = 1#1 := by
  show BitVec.ofBool ((0#32).slt (BitVec.ofNat 32 n)) = 1#1
  rw [BitVec.slt_eq_decide, toInt_small n h, BitVec.toInt_zero, decide_eq_true (by omega)]; rfl
theorem eq_small (m n : ℕ) (hm : m < 4294967296) (hn : n < 4294967296) : IntOp.cmpi .eq (BitVec.ofNat 32 m) (BitVec.ofNat 32 n) = BitVec.ofBool (decide (m = n)) := by
  show BitVec.ofBool (BitVec.ofNat 32 m == BitVec.ofNat 32 n) = _
  congr 1
  by_cases h : m = n
  · subst h; simp
  · rw [decide_eq_false h, beq_eq_false_iff_ne]
    intro e
    have := congrArg BitVec.toNat e
    simp only [BitVec.toNat_ofNat] at this
    omega

/-- The remainder the kernel computes of a number in range, its sign corrected: the remainder. -/
theorem rem_word (n : ℕ) (h : n < 22500) :
    Scalar.select (IntOp.andi (IntOp.xori (IntOp.cmpi .slt (IntOp.remsi .vector (BitVec.ofNat 32 n) 150#32) 0#32) (Scalar.cmpi .slt 150#32 0#32))
        (IntOp.cmpi .ne (IntOp.remsi .vector (BitVec.ofNat 32 n) 150#32) 0#32))
      (IntOp.addi (IntOp.remsi .vector (BitVec.ofNat 32 n) 150#32) 150#32) (IntOp.remsi .vector (BitVec.ofNat 32 n) 150#32)
      = BitVec.ofNat 32 (n % 150) := by
  rw [show (150#32 : BitVec 32) = BitVec.ofNat 32 150 from rfl, Idealize.ShloMosaic.Routing.remsi_word .vector (by omega) (by omega) (by omega), slt_zero _ (by omega)]
  rw [show IntOp.xori 0#1 (Scalar.cmpi .slt (BitVec.ofNat 32 150) 0#32) = 0#1 by decide]
  rw [show ∀ z : BitVec 1, IntOp.andi 0#1 z = 0#1 by decide]
  rfl

/-- The quotient the kernel computes of a number in range, rounded down by hand: the quotient. -/
theorem div_word (n : ℕ) (h : n < 22500) :
    Scalar.select (IntOp.andi (IntOp.cmpi .ne (IntOp.subi (BitVec.setWidth 32 (IntOp.cmpi .sgt (BitVec.ofNat 32 n) 0#32)) (BitVec.setWidth 32 (IntOp.cmpi .slt (BitVec.ofNat 32 n) 0#32)))
          (Scalar.subi (Scalar.extui (Scalar.cmpi .sgt 150#32 0#32)) (Scalar.extui (Scalar.cmpi .slt 150#32 0#32))))
        (IntOp.cmpi .ne (IntOp.remsi .vector (BitVec.ofNat 32 n) 150#32) 0#32))
      (IntOp.subi (IntOp.divsi .vector (BitVec.ofNat 32 n) 150#32) 1#32) (IntOp.divsi .vector (BitVec.ofNat 32 n) 150#32)
      = BitVec.ofNat 32 (n / 150) := by
  have hc : Scalar.subi (Scalar.extui (Scalar.cmpi .sgt 150#32 0#32)) (Scalar.extui (Scalar.cmpi .slt 150#32 0#32)) = (1#32 : BitVec 32) := by decide
  rw [hc, slt_zero _ (by omega), show (150#32 : BitVec 32) = BitVec.ofNat 32 150 from rfl, Idealize.ShloMosaic.Routing.remsi_word .vector (by omega) (by omega) (by omega),
    Idealize.ShloMosaic.Routing.divsi_word .vector (by omega) (by omega) (by omega)]
  rcases Nat.eq_zero_or_pos n with h0 | h0
  · subst h0; decide
  · rw [sgt_zero _ (by omega) h0]
    rw [show IntOp.cmpi .ne (IntOp.subi (BitVec.setWidth 32 1#1) (BitVec.setWidth 32 0#1)) 1#32 = 0#1 by decide]
    rw [show ∀ z : BitVec 1, IntOp.andi 0#1 z = 0#1 by decide]
    rfl

theorem sel150 : Scalar.select (Scalar.cmpi .eq 150#32 0#32) 1#32 150#32 = (150#32 : BitVec 32) := by decide

/-! ## A trip -/

abbrev State : Type := FVec Ideal S2x150x150 .f32 × FVec Ideal S2x1x150 .f32 × IVec S2x1x150 32 × FVec Ideal S2x1x128 .f32 × IVec S2x1x128 32

/-- Of batch `b`, what the loop carries is the table, and of each column the greatest entry and its first row. -/
structure Good (x : Tab) (b : Fin 2) (a : State) : Prop where
  tab : ∀ q c, a.1 (ix3 b q c) = x q c
  top : ∀ c, Top (fun q => x q c) (a.2.1 (ix3 b 0 c)) (a.2.2.1 (ix3 b 0 c))

section Trip

variable {x : Tab} {b : Fin 2} {a : State} (h : Good x b a)
include h

/-- The greatest entry of the table, its number, and the number's remainder and quotient. -/
theorem pay2_apply : k0_pay2 a.2.1 (ix3 b 0 0) = x (first x).1 (first x).2 := by
  pointwise [k0_pay2]
  exact (first_fold x (fun c => a.2.1 (ix3 b 0 c)) (fun c => a.2.2.1 (ix3 b 0 c)) h.top _ ofBits_bot).1

theorem pay3_apply : k0_pay3 rampC a.2.1 a.2.2.1 (ix3 b 0 0) = BitVec.ofNat 32 (num (first x)) := by
  have e := pay2_apply h
  pointwise [k0_pay3]
  have h2 := first_fold x (fun c => a.2.1 (ix3 b 0 c)) (fun c => a.2.2.1 (ix3 b 0 c)) h.top _ ofBits_bot
  rw [h2.1] at h2
  rw [e]
  exact h2.2

omit h in
theorem num_div : num (first x) / 150 = (first x).1.val := by unfold num; have := (first x).2.isLt; omega
omit h in
theorem num_mod : num (first x) % 150 = (first x).2.val := by unfold num; have := (first x).2.isLt; omega

theorem pay6_apply : k0_pay6 rampC a.2.1 a.2.2.1 (ix3 b 0 0) = BitVec.ofNat 32 (first x).2.val := by
  have e := pay3_apply h
  pointwise [k0_pay6]
  rw [e, sel150, rem_word _ (num_lt _), num_mod]

/-- The table with that entry marked. -/
theorem pay9_apply (q c : Fin 150) :
    k0_pay9 rampQ rampC a.1 (k0_pay3 rampC a.2.1 a.2.2.1) (k0_pay6 rampC a.2.1 a.2.2.1) 150#32 (k0_pay7 rampC a.2.1 a.2.2.1) (k0_pay8 rampC a.2.1 a.2.2.1) (ix3 b q c)
      = take x (first x) q c := by
  have e3 := pay3_apply h
  have e6 := pay6_apply h
  pointwise [k0_pay9, k0_pay7, k0_pay8]
  rw [e3, e6, div_word _ (num_lt _), num_div, eq_small _ _ (by have := q.isLt; omega) (by have := (first x).1.isLt; omega),
    eq_small _ _ (by have := c.isLt; omega) (by have := (first x).2.isLt; omega), h.tab]
  unfold take
  by_cases hq : q = (first x).1 <;> by_cases hc : c = (first x).2 <;>
    simp [hq, hc, Fin.val_inj, IntOp.andi, Scalar.select, mark]

/-- The column's greatest entry and first row after the mark. -/
theorem top_apply (c : Fin 150) :
    Top (fun q => take x (first x) q c)
      (k0_pay13 rampQ rampC a.1 a.2.1 (k0_pay3 rampC a.2.1 a.2.2.1) (k0_pay6 rampC a.2.1 a.2.2.1) 150#32 (k0_pay7 rampC a.2.1 a.2.2.1) (k0_pay8 rampC a.2.1 a.2.2.1) (ix3 b 0 c))
      (k0_pay14 rampQ rampC a.1 a.2.2.1 (k0_pay3 rampC a.2.1 a.2.2.1) (k0_pay6 rampC a.2.1 a.2.2.1) 150#32 (k0_pay7 rampC a.2.1 a.2.2.1) (k0_pay8 rampC a.2.1 a.2.2.1) (ix3 b 0 c)) := by
  have e9 := pay9_apply h
  have e6 := pay6_apply h
  have e10 : k0_pay10 rampC (k0_pay6 rampC a.2.1 a.2.2.1) (ix3 b 0 c) = BitVec.ofBool (decide (c = (first x).2)) := by
    pointwise [k0_pay10]
    rw [e6, eq_small _ _ (by have := c.isLt; omega) (by have := (first x).2.isLt; omega)]
    simp only [Fin.val_inj]
  pointwise [k0_pay13, k0_pay14, k0_pay12, k0_pay11]
  rw [e10]
  by_cases hc : c = (first x).2
  · rw [decide_eq_true hc]
    simp only [e9, Scalar.select, BitVec.ofBool_true, if_true]
    exact top_fold _ _ ofBits_bot
  · rw [decide_eq_false hc]
    have e : (fun q => take x (first x) q c) = fun q => x q c := funext fun q => if_neg fun e => hc e.2
    rw [e]
    exact h.top c

theorem trip_good (k) : Good (take x (first x)) b (trip rampQ rampC rampK k a) :=
  ⟨pay9_apply h, top_apply h⟩

end Trip

/-- The lane a trip writes is the trip's own. -/
theorem lane (l : Fin 128) (k : Fin k0_t1_loop.trips) (hk : k.val < 100) :
    IntOp.cmpi .eq (BitVec.ofNat 32 l.val) (Scf.iv 0#32 1#32 k.val) = BitVec.ofBool (decide (l.val = k.val)) := by
  rw [show Scf.iv 0#32 1#32 k.val = BitVec.ofNat 32 k.val by simp [Scf.iv]]
  exact eq_small _ _ (by have := l.isLt; omega) (by omega)

/-- A trip writes the greatest entry's value and number in its own lane. -/
theorem trip_lane {x : Tab} {b : Fin 2} {a : State} (h : Good x b a) (k : Fin k0_t1_loop.trips) (hk : k.val < 100) (l : Fin 128) :
    (trip rampQ rampC rampK k a).2.2.2.1 (ix3 b 0 l) = (if l.val = k.val then x (first x).1 (first x).2 else a.2.2.2.1 (ix3 b 0 l))
      ∧ (trip rampQ rampC rampK k a).2.2.2.2 (ix3 b 0 l) = if l.val = k.val then BitVec.ofNat 32 (num (first x)) else a.2.2.2.2 (ix3 b 0 l) := by
  have e2 := pay2_apply h
  have e3 := pay3_apply h
  refine ⟨?_, ?_⟩
  · show k0_pay4 rampK 0#32 1#32 k a.2.1 a.2.2.2.1 (ix3 b 0 l) = _
    pointwise [k0_pay4]
    rw [lane l k hk, e2]
    by_cases e : l.val = k.val <;> simp [e, Scalar.select]
  · show k0_pay5 rampC rampK 0#32 1#32 k a.2.1 a.2.2.1 a.2.2.2.2 (ix3 b 0 l) = _
    pointwise [k0_pay5]
    rw [lane l k hk, e3]
    by_cases e : l.val = k.val <;> simp [e, Scalar.select]

/-! ## The loop -/

/-- What holds of a fold's start and is kept by each of its steps holds of the fold. -/
theorem fold_induct {n : ℕ} {σ : Type} (g : Fin n → σ → σ) (init : σ) (P : ℕ → σ → Prop) (h0 : P 0 init)
    (hs : ∀ (k : Fin n) (a : σ), P k.val a → P (k.val + 1) (g k a)) (N : ℕ) (hN : n = N) : P N (Scf.fold g init) := by
  subst hN
  rw [Scf.fold_eq]
  have H : ∀ j ≤ n, P j (((List.finRange n).take j).foldl (fun a k => g k a) init) := by
    intro j
    induction j with
    | zero => intro _; simpa using h0
    | succ j ih =>
      intro hj
      rw [List.take_succ_eq_append_getElem (by simpa using hj), List.foldl_append]
      simpa using hs ⟨j, hj⟩ _ (ih (by omega))
  have h := H n le_rfl
  rwa [List.take_of_length_le (by simp)] at h

theorem trips_eq : k0_t1_loop.trips = 100 := by decide

/-- The score table of batch `b`. -/
def table (x : FVec Ideal S2x150x151 .f32) (b : Fin 2) : Tab := fun q c => k0_pay15 (F := Ideal) x (ix3 b q c)

/-- After the loop: lane `l` of the first hundred holds the value and the number of the `l`-th entry taken, the rest zero. -/
theorem last_lane (x : FVec Ideal S2x150x151 .f32) (b : Fin 2) (l : Fin 128) :
    (last x).2.2.2.1 (ix3 b 0 l) = (if l.val < 100 then left (table x b) l.val (taken (table x b) l.val).1 (taken (table x b) l.val).2 else 0)
      ∧ (last x).2.2.2.2 (ix3 b 0 l) = if l.val < 100 then BitVec.ofNat 32 (num (taken (table x b) l.val)) else 0#32 := by
  have H := fold_induct (trip (F := Ideal) rampQ rampC rampK) (k0_pay15 (F := Ideal) x, k0_pay17 (F := Ideal) x, k0_pay18 (F := Ideal) x, k0_pay19 (F := Ideal), k0_pay20)
    (fun k a => Good (left (table x b) k) b a ∧ ∀ l : Fin 128,
      a.2.2.2.1 (ix3 b 0 l) = (if l.val < k then left (table x b) l.val (taken (table x b) l.val).1 (taken (table x b) l.val).2 else 0)
        ∧ a.2.2.2.2 (ix3 b 0 l) = if l.val < k then BitVec.ofNat 32 (num (taken (table x b) l.val)) else 0#32) ?_ ?_ 100 trips_eq
  · exact H.2 l
  · refine ⟨⟨fun q c => rfl, fun c => ?_⟩, fun l => ?_⟩
    · pointwise [k0_pay17, k0_pay18]
      exact top_fold _ _ ofBits_bot
    · pointwise [k0_pay19, k0_pay20]
      simp
  · rintro k a ⟨hg, hl⟩
    have hk : k.val < 100 := trips_eq ▸ k.isLt
    refine ⟨trip_good hg k, fun l => ?_⟩
    have ht := trip_lane hg k hk l
    rw [ht.1, ht.2, (hl l).1, (hl l).2]
    rcases lt_trichotomy l.val k.val with e | e | e
    · simp [e, e.ne, show l.val < k.val + 1 by omega]
    · rw [e]; simp [taken]
    · simp [e.ne', show ¬ l.val < k.val by omega, show ¬ l.val < k.val + 1 by omega]

/-! ## What the call writes -/

/-- The place the `l`-th lane of batch `b` holds. -/
def at_ (x : FVec Ideal S2x150x151 .f32) (b : Fin 2) (l : Fin 128) : Place := taken (table x b) l.val

/-- The number a lane holds: zero past the first hundred. -/
def number (x : FVec Ideal S2x150x151 .f32) (b : Fin 2) (l : Fin 128) : ℕ := if l.val < 100 then num (at_ x b l) else 0
theorem number_lt (x : FVec Ideal S2x150x151 .f32) (b : Fin 2) (l : Fin 128) : number x b l < 22500 := by
  unfold number; split
  · exact num_lt _
  · omega
theorem last_number (x : FVec Ideal S2x150x151 .f32) (b : Fin 2) (l : Fin 128) : (last x).2.2.2.2 (ix3 b 0 l) = BitVec.ofNat 32 (number x b l) := by
  rw [(last_lane x b l).2]; unfold number at_; split <;> rfl

/-- The scores, the labels and the query numbers of the lanes. -/
theorem valsOf_apply (x : FVec Ideal S2x150x151 .f32) (b : Fin 2) (l : Fin 128) (hl : l.val < 100) :
    valsOf x (ix2 b l) = left (table x b) l.val (at_ x b l).1 (at_ x b l).2 := by
  unfold valsOf
  pointwise [k0_pay21]
  rw [(last_lane x b l).1, if_pos hl]; rfl
theorem labelsOf_apply (x : FVec Ideal S2x150x151 .f32) (b : Fin 2) (l : Fin 128) : labelsOf x (ix2 b l) = BitVec.ofNat 32 (number x b l % 150) := by
  unfold labelsOf
  pointwise [k0_pay23, k0_pay22]
  rw [last_number, sel150, rem_word _ (number_lt x b l)]
theorem pay24_apply (x : FVec Ideal S2x150x151 .f32) (b : Fin 2) (l : Fin 128) : k0_pay24 (last x).2.2.2.2 (ix3 b 0 l) = BitVec.ofNat 32 (number x b l / 150) := by
  pointwise [k0_pay24]
  rw [last_number, div_word _ (number_lt x b l)]
theorem queriesOf_apply (x : FVec Ideal S2x150x151 .f32) (b : Fin 2) (l : Fin 128) : queriesOf x (ix2 b l) = BitVec.ofNat 32 (number x b l / 150) := by
  have e := pay24_apply x b l
  unfold queriesOf
  pointwise [k0_pay25]
  exact e

/-- The one-hot rows: a one at the lane's query, for the first hundred lanes. -/
theorem onehotOf_apply (x : FVec Ideal S2x150x151 .f32) (b : Fin 2) (l : Fin 128) (q : Fin 150) :
    onehotOf x (ix3 b l q) = if (at_ x b l).1 = q ∧ l.val < 100 then 1 else 0 := by
  have e := pay24_apply x b l
  unfold onehotOf
  pointwise [k0_pay1, k0_pay26]
  rw [e]
  have hs : IntOp.cmpi .slt (BitVec.ofNat 32 l.val) 100#32 = BitVec.ofBool (decide (l.val < 100)) := by
    show BitVec.ofBool ((BitVec.ofNat 32 l.val).slt 100#32) = _
    rw [BitVec.slt_eq_decide, toInt_small _ (by have := l.isLt; omega), show (100#32 : BitVec 32).toInt = 100 by decide]
    congr 1
    exact decide_eq_decide.2 (by omega)
  rw [hs, eq_small _ _ (by have := number_lt x b l; omega) (by have := q.isLt; omega)]
  by_cases hl : l.val < 100
  · have hn : number x b l / 150 = (at_ x b l).1.val := by
      unfold number; rw [if_pos hl]; unfold num; have := (at_ x b l).2.isLt; omega
    rw [hn]
    by_cases hq : (at_ x b l).1 = q <;> simp [hq, hl, Fin.val_inj, IntOp.andi, Scalar.select]
  · simp [hl, IntOp.andi, Scalar.select]

/-- Every query number is in range. -/
theorem queriesOf_lt (x : FVec Ideal S2x150x151 .f32) (j : S2x128.Idx) : (queriesOf x j).toNat < 160 := by
  have e : queriesOf x j = BitVec.ofNat 32 (number x (j 0) (j 1) / 150) := (congrArg (queriesOf x) (ix2_eta j).symm).trans (queriesOf_apply x (j 0) (j 1))
  have := number_lt x (j 0) (j 1)
  rw [e]
  rw [BitVec.toNat_ofNat]
  omega

end Cert.Proof.Select

end
-- ==== Proof.Scores.lean ====
/-
  The score table as mathematics: each query's row is the softmax of its logits, and a finite row's scores are not
  negative.
-/
module

public import proofs.«01_k».proof.Proof.Select

@[expose] public section

noncomputable section

namespace Cert.Proof.Scores

open Idealize.ShloMosaic
open Cert.Proof.Pick (Tab Place)

/-- The greatest logit of a row. -/
def top (r : Fin 151 → EReal) : EReal := Finset.univ.fold max (Ideal.ofBits .f32 0xFF800000#32) r

/-- The softmax of a row. -/
def soft (r : Fin 151 → EReal) (c : Fin 151) : EReal := Ideal.div (Ideal.exp (r c - top r)) (∑ k, Ideal.exp (r k - top r))

/-- The table of one image: the scores of its first 150 classes. -/
def scores (x : FVec Ideal ⟨3, ![2, 150, 151]⟩ .f32) (b : Fin 2) : Tab := fun q c => soft (fun k => x (ix3 b q k)) ⟨c.val, by have := c.isLt; omega⟩

theorem table_eq (x : FVec Ideal Cert.KernelIdeal.S2x150x151 .f32) (b : Fin 2) : Select.table x b = scores x b := by
  funext q c
  unfold Select.table scores soft top
  pointwise [Cert.KernelIdeal.Gen.k0_pay15]

theorem exp_nonneg (x : EReal) : 0 ≤ Ideal.exp x := by
  induction x using EReal.rec with
  | bot => exact le_rfl
  | top => exact le_top
  | coe r => exact EReal.coe_nonneg.2 (Real.exp_pos r).le

/-- The greatest entry of a row is one of them. -/
theorem top_mem (r : Fin 151 → EReal) : ∃ k, top r = r k := by
  obtain ⟨q, -, hq⟩ := Finset.exists_max_image (Finset.univ : Finset (Fin 151)) r ⟨0, Finset.mem_univ _⟩
  refine ⟨q, le_antisymm ?_ ?_⟩
  · exact (Finset.fold_max_le _).2 ⟨by rw [Pick.ofBits_bot]; exact bot_le, fun q' _ => hq q' (Finset.mem_univ _)⟩
  · exact (Finset.le_fold_max _).2 (.inr ⟨q, Finset.mem_univ _, le_rfl⟩)

/-- Scores of a finite row are not negative: the sum they are divided by is at least one. -/
theorem soft_nonneg (r : Fin 151 → EReal) (hr : ∀ k, r k ≠ ⊤ ∧ r k ≠ ⊥) (c : Fin 151) : 0 ≤ soft r c := by
  obtain ⟨k, hk⟩ := top_mem r
  have h1 : (1 : EReal) ≤ ∑ k, Ideal.exp (r k - top r) := by
    refine le_trans ?_ (Finset.single_le_sum (fun k _ => exp_nonneg _) (Finset.mem_univ k))
    rw [hk, EReal.sub_self (hr k).1 (hr k).2]
    show (1 : EReal) ≤ ((Real.exp 0 : ℝ) : EReal)
    rw [Real.exp_zero]; exact le_rfl
  have h0 : (0 : EReal) < ∑ k, Ideal.exp (r k - top r) := lt_of_lt_of_le zero_lt_one h1
  unfold soft Ideal.div
  rw [if_neg h0.ne']
  exact mul_nonneg (exp_nonneg _) (EReal.inv_nonneg_of_nonneg h0.le)

end Cert.Proof.Scores

end
-- ==== Proof.Masks.lean ====
/-
  What the mask call computes, at the extended reals, entry by entry: the class maps are sums over the queries, the
  selected masks read one query's mask, and the ratios divide two sums over a whole mask, which the call gathers in
  twelve bands of thirty-two rows.
-/
module

public import proofs.«01_k».proof.Proof.Regions
public import Idealize.ShloMosaic.Lib.Pointwise

@[expose] public section

noncomputable section

namespace Cert.Proof.Masks

open Cert.KernelIdeal Cert.KernelIdeal.Gen
open Idealize.ShloMosaic
open Cert.Proof.Regions (maskBlk rowBlk hotBlk accN accD semOf instOf ratiosOf)

/-- A place of a mask inside it, as a number; and the sigmoid there, zero outside. -/
def hit (x : EReal) : EReal := if 0 < x then 1 else 0
def sig (x : EReal) : EReal := if 0 < x then Ideal.logistic x else 0

/-- The sum of the sigmoids inside a mask over the mask's size plus a small number. -/
def ratio (g : Fin 384 → Fin 384 → EReal) : EReal :=
  Ideal.div (∑ h, ∑ w, sig (g h w)) ((∑ h, ∑ w, hit (g h w)) + Ideal.ofBits .f32 0x358637BD#32)

variable (M : FVec Ideal S2x150x384x384 .f32)

theorem maskBlk_apply (t : ℕ) (b : Fin 2) (n : ℕ) (hn : n < 12) (ht : t = 12 * b.val + n) (q : Fin 150) (h : Fin 32) (w : Fin 384) :
    maskBlk M t (ix4 0 q h w) = M (ix4 b q ⟨n * 32 + h.val, by have := h.isLt; omega⟩ w) := by
  have hb := b.isLt
  refine congrArg M (funext fun a => Fin.ext ?_)
  match a with
  | ⟨0, _⟩ => show t / 12 % 2 = b.val; omega
  | ⟨1, _⟩ => rfl
  | ⟨2, _⟩ => show t % 12 * 32 + h.val = n * 32 + h.val; rw [show t % 12 = n by omega]
  | ⟨3, _⟩ => rfl
theorem rowBlk_apply (y : FVec Ideal S2x150x150 .f32) (t : ℕ) (b : Fin 2) (n : ℕ) (hn : n < 12) (ht : t = 12 * b.val + n) (q c : Fin 150) :
    rowBlk y t (ix3 0 q c) = y (ix3 b q c) := by
  have hb := b.isLt
  refine congrArg y (funext fun a => Fin.ext ?_)
  match a with
  | ⟨0, _⟩ => show t / 12 % 2 = b.val; omega
  | ⟨1, _⟩ => rfl
  | ⟨2, _⟩ => rfl
theorem hotBlk_apply (y : FVec Ideal S2x128x150 .f32) (t : ℕ) (b : Fin 2) (n : ℕ) (hn : n < 12) (ht : t = 12 * b.val + n) (q : Fin 128) (c : Fin 150) :
    hotBlk y t (ix3 0 q c) = y (ix3 b q c) := by
  have hb := b.isLt
  refine congrArg y (funext fun a => Fin.ext ?_)
  match a with
  | ⟨0, _⟩ => show t / 12 % 2 = b.val; omega
  | ⟨1, _⟩ => rfl
  | ⟨2, _⟩ => rfl

/-! ## One band -/

theorem semBlk_apply (x : FVec Ideal S1x150x32x384 .f32) (y : FVec Ideal S1x150x150 .f32) (c : Fin 150) (h : Fin 32) (w : Fin 384) :
    Mega.semBlk x y (ix4 0 c h w) = ∑ q, y (ix3 0 c q) * Ideal.logistic (x (ix4 0 q h w)) := by
  unfold Mega.semBlk
  pointwise [k1_pay11, k1_pay9, k1_pay8]
theorem instBlk_apply (x : FVec Ideal S1x150x32x384 .f32) (z : FVec Ideal S1x128x150 .f32) (l : Fin 100) (h : Fin 32) (w : Fin 384) :
    Mega.instBlk x z (ix4 0 l h w) = ∑ q, z (ix3 0 ⟨l.val, by have := l.isLt; omega⟩ q) * hit (x (ix4 0 q h w)) := by
  unfold Mega.instBlk hit
  pointwise [k1_pay12, k1_pay10, k1_pay8]
theorem sumN_first (x : FVec Ideal S1x150x32x384 .f32) (a : FVec Ideal S150x1 .f32) (q : Fin 150) :
    Mega.sumN 0 x a (ix2 q 0) = ∑ k : Fin 12288, sig (x (ix4 0 q ⟨k.val / 384, by have := k.isLt; omega⟩ ⟨k.val % 384, by omega⟩)) := by
  unfold Mega.sumN sig
  rw [if_pos rfl]
  pointwise [k1_pay3, k1_pay1, k1_pay9, k1_pay13, k1_pay8]
theorem sumN_later (n : ℕ) (hn : n ≠ 0) (x : FVec Ideal S1x150x32x384 .f32) (a : FVec Ideal S150x1 .f32) (q : Fin 150) :
    Mega.sumN n x a (ix2 q 0) = a (ix2 q 0) + ∑ k : Fin 12288, sig (x (ix4 0 q ⟨k.val / 384, by have := k.isLt; omega⟩ ⟨k.val % 384, by omega⟩)) := by
  unfold Mega.sumN sig
  rw [if_neg hn]
  pointwise [k1_pay5, k1_pay1, k1_pay9, k1_pay13, k1_pay8]
theorem sumD_first (x : FVec Ideal S1x150x32x384 .f32) (a : FVec Ideal S150x1 .f32) (q : Fin 150) :
    Mega.sumD 0 x a (ix2 q 0) = ∑ k : Fin 12288, hit (x (ix4 0 q ⟨k.val / 384, by have := k.isLt; omega⟩ ⟨k.val % 384, by omega⟩)) := by
  unfold Mega.sumD hit
  rw [if_pos rfl]
  pointwise [k1_pay4, k1_pay2, k1_pay10, k1_pay8]
theorem sumD_later (n : ℕ) (hn : n ≠ 0) (x : FVec Ideal S1x150x32x384 .f32) (a : FVec Ideal S150x1 .f32) (q : Fin 150) :
    Mega.sumD n x a (ix2 q 0) = a (ix2 q 0) + ∑ k : Fin 12288, hit (x (ix4 0 q ⟨k.val / 384, by have := k.isLt; omega⟩ ⟨k.val % 384, by omega⟩)) := by
  unfold Mega.sumD hit
  rw [if_neg hn]
  pointwise [k1_pay6, k1_pay2, k1_pay10, k1_pay8]
theorem ratioRow_apply (a d : FVec Ideal S150x1 .f32) (q : Fin 160) (hq : q.val < 150) :
    Mega.ratioRow a d (ix3 0 0 q) = Ideal.div (a (ix2 ⟨q.val, hq⟩ 0)) (d (ix2 ⟨q.val, hq⟩ 0) + Ideal.ofBits .f32 0x358637BD#32) := by
  unfold Mega.ratioRow
  pointwise [k1_pay7]
  rw [dif_pos hq]

/-! ## The whole of an image -/

/-- A sum over twelve bands is the sum over the rows. -/
theorem sum_bands (g : Fin 384 → Fin 384 → EReal) :
    ∑ n ∈ Finset.range 12, (if hn : n < 12 then ∑ k : Fin 12288, g ⟨n * 32 + k.val / 384, by have := k.isLt; omega⟩ ⟨k.val % 384, by omega⟩ else 0) = ∑ h, ∑ w, g h w := by
  rw [Finset.sum_range, Fin.sum_univ_tiles 12 32 rfl (fun h => ∑ w, g h w)]
  refine Finset.sum_congr rfl fun n _ => ?_
  rw [dif_pos n.isLt, Fin.sum_univ_tiles 32 384 rfl]
  refine Finset.sum_congr rfl fun h _ => Finset.sum_congr rfl fun w _ => ?_
  have hh := h.isLt; have hw := w.isLt
  congr 1
  · exact Fin.ext (by show n.val * 32 + (h.val * 384 + w.val) / 384 = n.val * 32 + h.val; omega)
  · exact Fin.ext (by show (h.val * 384 + w.val) % 384 = w.val; omega)

theorem accN_succ (X : ℕ → FVec Ideal S1x150x32x384 .f32) (t : ℕ) : accN X (t + 1) = Mega.sumN (t % 12) (X t) (accN X t) := rfl
theorem accD_succ (X : ℕ → FVec Ideal S1x150x32x384 .f32) (t : ℕ) : accD X (t + 1) = Mega.sumD (t % 12) (X t) (accD X t) := rfl

/-- The running sums after the `n`-th band of image `b`. -/
theorem accN_apply (b : Fin 2) (q : Fin 150) : ∀ n : ℕ, n < 12 →
    accN (maskBlk M) (12 * b.val + n + 1) (ix2 q 0)
      = ∑ n' ∈ Finset.range (n + 1), (if hn : n' < 12 then ∑ k : Fin 12288, sig (M (ix4 b q ⟨n' * 32 + k.val / 384, by have := k.isLt; omega⟩ ⟨k.val % 384, by omega⟩)) else 0)
  | 0, h0 => by
    rw [Finset.sum_range_one, dif_pos (by omega)]
    rw [accN_succ, show 12 * b.val % 12 = 0 by omega, sumN_first]
    exact Finset.sum_congr rfl fun k _ => congrArg sig (maskBlk_apply M _ b 0 (by omega) rfl q _ _)
  | n + 1, hn => by
    rw [Finset.sum_range_succ, dif_pos hn, ← accN_apply b q n (by omega)]
    rw [← Nat.add_assoc, accN_succ, Nat.add_assoc, show (12 * b.val + (n + 1)) % 12 = n + 1 by omega, sumN_later _ (by omega)]
    refine congrArg₂ (· + ·) rfl ?_
    exact Finset.sum_congr rfl fun k _ => congrArg sig (maskBlk_apply M _ b (n + 1) hn rfl q _ _)
theorem accD_apply (b : Fin 2) (q : Fin 150) : ∀ n : ℕ, n < 12 →
    accD (maskBlk M) (12 * b.val + n + 1) (ix2 q 0)
      = ∑ n' ∈ Finset.range (n + 1), (if hn : n' < 12 then ∑ k : Fin 12288, hit (M (ix4 b q ⟨n' * 32 + k.val / 384, by have := k.isLt; omega⟩ ⟨k.val % 384, by omega⟩)) else 0)
  | 0, h0 => by
    rw [Finset.sum_range_one, dif_pos (by omega)]
    rw [accD_succ, show 12 * b.val % 12 = 0 by omega, sumD_first]
    exact Finset.sum_congr rfl fun k _ => congrArg hit (maskBlk_apply M _ b 0 (by omega) rfl q _ _)
  | n + 1, hn => by
    rw [Finset.sum_range_succ, dif_pos hn, ← accD_apply b q n (by omega)]
    rw [← Nat.add_assoc, accD_succ, Nat.add_assoc, show (12 * b.val + (n + 1)) % 12 = n + 1 by omega, sumD_later _ (by omega)]
    refine congrArg₂ (· + ·) rfl ?_
    exact Finset.sum_congr rfl fun k _ => congrArg hit (maskBlk_apply M _ b (n + 1) hn rfl q _ _)

/-- The class maps: at each place, the sum over the queries of the class's weight times the sigmoid of the mask. -/
theorem semOf_apply (y : FVec Ideal S2x150x150 .f32) (b : Fin 2) (c : Fin 150) (h w : Fin 384) :
    semOf M y (ix4 b c h w) = ∑ q, y (ix3 b c q) * Ideal.logistic (M (ix4 b q h w)) := by
  have hh := h.isLt
  have hn : h.val / 32 < 12 := by omega
  refine (semBlk_apply _ _ c ⟨h.val % 32, by omega⟩ w).trans (Finset.sum_congr rfl fun q _ => ?_)
  refine congrArg₂ (· * ·) (rowBlk_apply y _ b _ hn rfl c q) (congrArg Ideal.logistic ((maskBlk_apply M _ b _ hn rfl q _ w).trans (congrArg M ?_)))
  exact congrArg (fun r => ix4 b q r w) (Fin.ext (by show h.val / 32 * 32 + h.val % 32 = h.val; omega))

/-- The selected masks: at each place, the sum over the queries of the row's weight times the indicator of the mask. -/
theorem instOf_apply (z : FVec Ideal S2x128x150 .f32) (b : Fin 2) (l : Fin 100) (h w : Fin 384) :
    instOf M z (ix4 b l h w) = ∑ q, z (ix3 b ⟨l.val, by have := l.isLt; omega⟩ q) * hit (M (ix4 b q h w)) := by
  have hh := h.isLt
  have hn : h.val / 32 < 12 := by omega
  refine (instBlk_apply _ _ l ⟨h.val % 32, by omega⟩ w).trans (Finset.sum_congr rfl fun q _ => ?_)
  refine congrArg₂ (· * ·) (hotBlk_apply z _ b _ hn rfl _ q) (congrArg hit ((maskBlk_apply M _ b _ hn rfl q _ w).trans (congrArg M ?_)))
  exact congrArg (fun r => ix4 b q r w) (Fin.ext (by show h.val / 32 * 32 + h.val % 32 = h.val; omega))

/-- The ratios: of each query's whole mask. -/
theorem ratiosOf_apply (b : Fin 2) (q : Fin 160) (hq : q.val < 150) :
    ratiosOf M (ix3 b 0 q) = ratio fun h w => M (ix4 b ⟨q.val, hq⟩ h w) := by
  refine (ratioRow_apply _ _ q hq).trans ?_
  unfold ratio
  rw [← sum_bands, ← sum_bands]
  exact congrArg₂ Ideal.div (accN_apply M b ⟨q.val, hq⟩ 11 (by omega)) (congrArg (· + _) (accD_apply M b ⟨q.val, hq⟩ 11 (by omega)))

end Cert.Proof.Masks

end
-- ==== Proof.Ref.lean ====
/-
  What the reference computes, entry by entry: its softmax, the places its selection takes, the masks it gathers, and its
  four results.
-/
module

public import proofs.«01_k».proof.Proof.Scores
public import proofs.«01_k».proof.Proof.Masks
public import proofs.«01_k».proof.Proof.CallRef
public import proofs.«01_k».proof.Proof.Gen.ReferenceIdeal.Run
public import Idealize.ShloMosaic.Lib.Routing.Words
public import Idealize.ShloMosaic.Lib.ReduceAll

@[expose] public section

noncomputable section

namespace Cert.Proof.Ref

open Cert.ReferenceIdeal Cert.ReferenceIdeal.Gen
open Idealize.ShloMosaic Idealize.ShloMosaic.TcCoe
open Idealize.SL.Sem
open Cert.Proof.Pick (Tab Place num num_lt place taken sorted_taken)
open Cert.Proof.Scores (soft top scores)
open Cert.Proof.Masks (hit ratio)

/-! ## The reference's steps, named -/

/-- The logits less their row's greatest, exponentiated; the scores; the scores in one row per image. -/
def shifted (x : FVec Ideal S2x150x151 .f32) : FVec Ideal S2x150x151 .f32 :=
  Host.exp (subf x (broadcastInDim S2x150x151 ![0, 1, 2] bcast_S2x150x1_S2x150x151_0_1_2 (broadcastInDim S2x150x1 ![0, 1] bcast_S2x150_S2x150x1_0_1 (maximumf (broadcastInDim S2x150 ![] bcast_S_S2x150 (constant S_ .f32 0xFF800000#32)) (Host.reduce FloatOps.maximumf x (constant S_ .f32 0xFF800000#32) reducesTo_S2x150x151_S2x150_d2 h_S_)))))
def probs (x : FVec Ideal S2x150x151 .f32) : FVec Ideal S2x150x150 .f32 :=
  extractStridedSlice S2x150x150 ![0, 0, 0] (Host.divf (shifted x) (broadcastInDim S2x150x151 ![0, 1, 2] bcast_S2x150x1_S2x150x151_0_1_2 (broadcastInDim S2x150x1 ![0, 1] bcast_S2x150_S2x150x1_0_1 (Host.reduceAdd (shifted x) (constant S_ .f32 0x00000000#32) reducesTo_S2x150x151_S2x150_d2 h_S_)))) slices_S2x150x151_S2x150x150_0_0_0
def flat (x : FVec Ideal S2x150x151 .f32) : FVec Ideal S2x22500 .f32 := shapeCast S2x22500 (probs x) shapeCasts_S2x150x150_S2x22500

/-- The hundred greatest scores and their numbers. -/
def picked (x : FVec Ideal S2x150x151 .f32) : FVec Ideal S2x100 .f32 × IVec S2x100 32 := Host.topK S2x100 1 (FloatOps.cmpfTotal .gt) (flat x) sliceFits_S2x22500_S2x100

/-- The numbers below `n`, a negative one counted from the end. -/
def wrapped (n : BitVec 32) (i : IVec S2x100 32) : IVec S2x100 32 :=
  select (cmpi .slt i (broadcastInDim S2x100 ![] bcast_S_S2x100 (constantI S_ 32 0#32))) (addi i (broadcastInDim S2x100 ![] bcast_S_S2x100 (constantI S_ 32 n))) i

/-- The list 0 .. 149, 150 times; the labels looked up in it. -/
def tiled : IVec S22500 32 :=
  shapeCast _ (shapeCast _ (broadcastInDim S150x1x1x150 ![0, 1, 2, 3] bcast_S1x1x1x150_S150x1x1x150_0_1_2_3 (shapeCast _ (broadcastInDim S1x150 ![1] bcast_S150_S1x150_1 (iotaInDim S150 32 0)) shapeCasts_S1x150_S1x1x1x150)) shapeCasts_S150x1x1x150_S150x150) shapeCasts_S150x150_S22500
def labels (x : FVec Ideal S2x150x151 .f32) : IVec S2x100 32 :=
  Host.gather gather_S22500_S2x100x1_S2x100_n_0_n_n_0_2_1 tiled (broadcastInDim S2x100x1 ![0, 1] bcast_S2x100_S2x100x1_0_1 (wrapped 22500#32 (picked x).2))

/-- The quotient rounded down, of numbers by 150; the queries. -/
def floored (i : IVec S2x100 32) : IVec S2x100 32 :=
  select (andi (cmpi .ne (signi i) (broadcastInDim S2x100 ![] bcast_S_S2x100 (signi (constantI S_ 32 150#32)))) (cmpi .ne (Host.remsi i (broadcastInDim S2x100 ![] bcast_S_S2x100 (constantI S_ 32 150#32))) (broadcastInDim S2x100 ![] bcast_S_S2x100 (constantI S_ 32 0#32))))
    (subi (Host.divsi i (broadcastInDim S2x100 ![] bcast_S_S2x100 (constantI S_ 32 150#32))) (broadcastInDim S2x100 ![] bcast_S_S2x100 (constantI S_ 32 1#32)))
    (Host.divsi i (broadcastInDim S2x100 ![] bcast_S_S2x100 (constantI S_ 32 150#32)))
def queries (x : FVec Ideal S2x150x151 .f32) : IVec S2x100 32 := floored (picked x).2

/-- The masks of the queries, filled where a query number is out of range; where they are positive; their sigmoids;
    each mask in one row; the scores of the masks. -/
def column (q : IVec S2x100 32) : IVec S2x100x1 32 := broadcastInDim S2x100x1 ![0, 1] bcast_S2x100_S2x100x1_0_1 (wrapped 150#32 q)
def inRows (q : IVec S2x100 32) : IVec S2x100 1 :=
  Host.reduce IntOp.andi (andi (cmpi .sge (column q) (broadcastInDim S2x100x1 ![] bcast_S_S2x100x1 (constantI S_ 32 0#32))) (cmpi .sle (column q) (broadcastInDim S2x100x1 ![0, 1, 2] bcast_S1x1x1_S2x100x1_0_1_2 (broadcastInDim S1x1x1 ![2] bcast_S1_S1x1x1_2 (constantI S1 32 149#32))))) (constantI S_ 1 1#1) reducesTo_S2x100x1_S2x100_d2 h_S_
def chosen (x : FVec Ideal S2x150x151 .f32) (M : FVec Ideal S2x150x384x384 .f32) : FVec Ideal S2x100x384x384 .f32 :=
  select (broadcastInDim S2x100x384x384 ![0, 1] bcast_S2x100_S2x100x384x384_0_1 (inRows (queries x)))
    (Host.gather gather_S2x150x384x384_S2x100x1_S2x100x384x384_23_1_0_0_1_2_11384384 M (column (queries x)))
    (broadcastInDim S2x100x384x384 ![] bcast_S_S2x100x384x384 (constant S_ .f32 0x7FC00000#32))
def inside (y : FVec Ideal S2x100x384x384 .f32) : FVec Ideal S2x100x384x384 .f32 :=
  uitofp .f32 (cmpf .ogt y (broadcastInDim S2x100x384x384 ![] bcast_S_S2x100x384x384 (constant S_ .f32 0x00000000#32)))
def sigmoid (y : FVec Ideal S2x100x384x384 .f32) : FVec Ideal S2x100x384x384 .f32 :=
  Host.divf (broadcastInDim S2x100x384x384 ![] bcast_S_S2x100x384x384 (constant S_ .f32 0x3F800000#32)) (addf (broadcastInDim S2x100x384x384 ![] bcast_S_S2x100x384x384 (constant S_ .f32 0x3F800000#32)) (Host.exp (Host.negf y)))
def inRow (y : FVec Ideal S2x100x384x384 .f32) : FVec Ideal S2x100x147456 .f32 := shapeCast _ y shapeCasts_S2x100x384x384_S2x100x147456
def maskScores (y : FVec Ideal S2x100x384x384 .f32) : FVec Ideal S2x100 .f32 :=
  Host.divf (Host.reduceAdd (mulf (inRow (sigmoid y)) (inRow (inside y))) (constant S_ .f32 0x00000000#32) reducesTo_S2x100x147456_S2x100_d2 h_S_)
    (addf (Host.reduceAdd (inRow (inside y)) (constant S_ .f32 0x00000000#32) reducesTo_S2x100x147456_S2x100_d2 h_S_) (broadcastInDim S2x100 ![] bcast_S_S2x100 (constant S_ .f32 0x358637BD#32)))

/-- The four results. -/
def semOut (x : FVec Ideal S2x150x151 .f32) (M : FVec Ideal S2x150x384x384 .f32) : FVec Ideal S2x150x384x384 .f32 :=
  Host.dotGeneral dot_S2x150x150_S2x150x384x384_S2x150x384x384_1_1_2_23_0_0 none (probs x)
    (Host.divf (broadcastInDim S2x150x384x384 ![] bcast_S_S2x150x384x384 (constant S_ .f32 0x3F800000#32)) (addf (broadcastInDim S2x150x384x384 ![] bcast_S_S2x150x384x384 (constant S_ .f32 0x3F800000#32)) (Host.exp (Host.negf M))))
def scoresOut (x : FVec Ideal S2x150x151 .f32) (M : FVec Ideal S2x150x384x384 .f32) : FVec Ideal S2x100 .f32 := mulf (picked x).1 (maskScores (chosen x M))

/-- The reference's run, its results as the steps above. -/
theorem run (m : (ℓ : Loc nD τ Cert.ReferenceIdeal.sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = semOut (m ((c.tc : Thread nD τ).loc main_arg0)) (m ((c.tc : Thread nD τ).loc main_arg1))
      ∧ r.2.mem ((c.tc : Thread nD τ).loc main_v49) = inside (chosen (m ((c.tc : Thread nD τ).loc main_arg0)) (m ((c.tc : Thread nD τ).loc main_arg1)))
      ∧ r.2.mem ((c.tc : Thread nD τ).loc main_v64) = scoresOut (m ((c.tc : Thread nD τ).loc main_arg0)) (m ((c.tc : Thread nD τ).loc main_arg1))
      ∧ r.2.mem ((c.tc : Thread nD τ).loc main_v44) = labels (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

/-! ## The scores -/

theorem probs_apply (x : FVec Ideal S2x150x151 .f32) (b : Fin 2) (q c : Fin 150) : probs x (ix3 b q c) = scores x b q c := by
  unfold probs shifted scores soft top
  pointwise
  rw [Pick.ofBits_bot]
  simp only [bot_le, max_eq_right]
theorem flat_apply (x : FVec Ideal S2x150x151 .f32) (b : Fin 2) (n : Fin 22500) : flat x (ix2 b n) = scores x b (place n).1 (place n).2 := by
  rw [← probs_apply]
  unfold flat place
  pointwise

/-! ## The selection -/

/-- The host's greatest entries: the values and the numbers that the stable sort puts first. -/
theorem topK_apply {α : Type} {n k : ℕ} (gt : α → α → BitVec 1) (y : Shape.Idx ⟨2, ![2, n]⟩ → α) (h : Shape.Slices ⟨2, ![2, n]⟩ (fun _ => 0) ⟨2, ![2, k]⟩) (hk : k ≤ n) (b : Fin 2) (l : Fin k) :
    (Host.topK ⟨2, ![2, k]⟩ 1 gt y h).1 (ix2 b l) = y (ix2 b (sortedFrom (fun i i' => gt (y (ix2 b i)) (y (ix2 b i')) == 1#1) (l.castLE hk)))
    ∧ (Host.topK ⟨2, ![2, k]⟩ 1 gt y h).2 (ix2 b l) = BitVec.ofNat 32 (sortedFrom (fun i i' => gt (y (ix2 b i)) (y (ix2 b i')) == 1#1) (l.castLE hk)).val := by
  have along : ∀ i : Fin n, Shape.Idx.along (s := ⟨2, ![2, n]⟩) (ix2 b (l.castLE hk)) (1 : Fin 2) i = ix2 b i := fun i => by
    funext a
    match a with
    | ⟨0, _⟩ => rfl
    | ⟨1, _⟩ => rfl
  have at_ : ∀ {β : Type} (v : Shape.Idx ⟨2, ![2, n]⟩ → β), extractStridedSlice ⟨2, ![2, k]⟩ (fun _ => 0) v h (ix2 b l) = v (ix2 b (l.castLE hk)) := fun v => by
    refine congrArg v (funext fun a => Fin.ext ?_)
    match a with
    | ⟨0, _⟩ => exact Nat.zero_add _
    | ⟨1, _⟩ => exact Nat.zero_add _
  have hd : 1 < (⟨2, ![2, n]⟩ : Shape).rank := Nat.one_lt_two
  constructor
  · unfold Host.topK
    dsimp only
    refine (at_ _).trans ?_
    unfold Host.sort2
    rw [dif_pos hd]
    have key : ∀ A : Fin n → Shape.Idx ⟨2, ![2, n]⟩, (∀ i, A i = ix2 b i) →
        y (A (sortedFrom (fun i i' => gt (y (A i)) (y (A i')) == 1#1) (l.castLE hk))) = y (ix2 b (sortedFrom (fun i i' => gt (y (ix2 b i)) (y (ix2 b i')) == 1#1) (l.castLE hk))) := by
      intro A hA
      obtain rfl : A = fun i => ix2 b i := funext hA
      rfl
    exact key _ along
  · unfold Host.topK
    dsimp only
    refine (at_ _).trans ?_
    unfold Host.sort2
    rw [dif_pos hd]
    have key : ∀ A : Fin n → Shape.Idx ⟨2, ![2, n]⟩, (∀ i, A i = ix2 b i) →
        BitVec.ofNat 32 (A (sortedFrom (fun i i' => gt (y (A i)) (y (A i')) == 1#1) (l.castLE hk)) (1 : Fin 2)).val = BitVec.ofNat 32 (sortedFrom (fun i i' => gt (y (ix2 b i)) (y (ix2 b i')) == 1#1) (l.castLE hk)).val := by
      intro A hA
      obtain rfl : A = fun i => ix2 b i := funext hA
      rfl
    exact key _ along

theorem gt_eq (a b : EReal) : (FloatOps.cmpfTotal (F := Ideal) (φ := .f32) .gt a b == 1#1) = decide (b < a) := by
  show (Ideal.cmpTotal .gt a b == 1#1) = _
  unfold Ideal.cmpTotal Ideal.cmp CmpDirection.ordered
  by_cases h : b < a <;> simp [h]

variable (x : FVec Ideal S2x150x151 .f32) (M : FVec Ideal S2x150x384x384 .f32) (b : Fin 2)

/-- The place of the `l`-th greatest score. -/
abbrev spot (l : ℕ) : Place := taken (scores x b) l

section
variable (hx : ∀ q c, 0 ≤ scores x b q c)
include hx

theorem picked_apply (l : Fin 100) :
    (picked x).1 (ix2 b l) = scores x b (spot x b l.val).1 (spot x b l.val).2 ∧ (picked x).2 (ix2 b l) = BitVec.ofNat 32 (num (spot x b l.val)) := by
  have h := topK_apply (FloatOps.cmpfTotal (F := Ideal) (φ := .f32) .gt) (flat x) sliceFits_S2x22500_S2x100 (by omega) b l
  have e := sorted_taken hx (fun i i' => FloatOps.cmpfTotal (F := Ideal) (φ := .f32) .gt (flat x (ix2 b i)) (flat x (ix2 b i')) == 1#1)
    (fun n n' => by rw [gt_eq, flat_apply, flat_apply]) l
  rw [e] at h
  refine ⟨h.1.trans ((flat_apply x b _).trans ?_), h.2⟩
  rw [Pick.place_num]
end

/-! ## The labels and the queries -/

theorem wrapped_apply (n : BitVec 32) (i : IVec S2x100 32) (l : Fin 100) (k : ℕ) (hk : k < 2147483648) (hi : i (ix2 b l) = BitVec.ofNat 32 k) :
    wrapped n i (ix2 b l) = BitVec.ofNat 32 k := by
  unfold wrapped
  pointwise
  rw [hi, Select.slt_zero k hk]; rfl
theorem tiled_apply (n : Fin 22500) : tiled (ix1 n) = BitVec.ofNat 32 (n.val % 150) := by
  unfold tiled
  pointwise

/-- The lookup of single entries reads, at `(b, l)`, the entry that index `(b, l)` names. -/
theorem gather_entry (y : IVec S22500 32) (idx : IVec S2x100x1 32) (l : Fin 100) (n : Fin 22500) (hn : idx (ix3 b l 0) = BitVec.ofNat 32 n.val) :
    Host.gather gather_S22500_S2x100x1_S2x100_n_0_n_n_0_2_1 y idx (ix2 b l) = y (ix1 n) := by
  refine congrArg y (funext fun a => Fin.ext ?_)
  show GatherDims.start _ (ix2 b l) idx a + GatherDims.batchCoord _ (ix2 b l) a + GatherDims.offCoord _ (ix2 b l) a = _
  match a with
  | ⟨0, _⟩ =>
    rw [GatherDims.batchCoord_eq_zero _ _ _ (fun h => by cases h),
      GatherDims.offCoord_eq_zero _ _ _ (fun h => ((GatherDims.mem_sKept _ _).mp h).1 (List.mem_singleton.mpr rfl)), Nat.add_zero]
    unfold GatherDims.start
    have at_take : ∀ z : S2x100x1.Idx, z = ix3 b l 0 → min (idx z).toInt.toNat 22499 = n.val := by
      rintro z rfl
      have := n.isLt
      rw [hn, BitVec.toInt_eq_toNat_of_lt (by rw [BitVec.toNat_ofNat, Nat.mod_eq_of_lt] <;> omega), BitVec.toNat_ofNat, Nat.mod_eq_of_lt (by omega)]
      simp only [Int.toNat_natCast]; omega
    exact (dif_pos (List.mem_singleton.mpr rfl)).trans (at_take _ (funext fun b => Fin.ext (by match b with | ⟨0, _⟩ => rfl | ⟨1, _⟩ => rfl | ⟨2, _⟩ => rfl)))

/-- The sign of a word: 0, 1 or -1; of a number greater than zero it is 1. -/
def signOf (w : BitVec 32) : BitVec 32 := if w = 0 then 0 else if w.msb then -1 else 1
theorem sign_pos (k : ℕ) (hk : k < 2147483648) (h0 : 0 < k) : signOf (BitVec.ofNat 32 k) = 1#32 := by
  unfold signOf
  rw [if_neg, if_neg]
  · rfl
  · rw [BitVec.msb_eq_decide, BitVec.toNat_ofNat, Nat.mod_eq_of_lt (by omega), decide_eq_false (by omega)]; exact Bool.false_ne_true
  · intro e
    have e' : (BitVec.ofNat 32 k).toNat = 0 := congrArg BitVec.toNat e
    rw [BitVec.toNat_ofNat] at e'
    omega
theorem floored_apply (i : IVec S2x100 32) (l : Fin 100) (k : ℕ) (hk : k < 2147483648) (hi : i (ix2 b l) = BitVec.ofNat 32 k) :
    floored i (ix2 b l) = BitVec.ofNat 32 (k / 150) := by
  have e : signOf 150#32 = 1#32 := sign_pos 150 (by omega) (by omega)
  show Scalar.select (IntOp.andi (IntOp.cmpi .ne (signOf (i (ix2 b l))) (signOf 150#32)) (IntOp.cmpi .ne (IntOp.remsi .host (i (ix2 b l)) 150#32) 0#32))
    (IntOp.subi (IntOp.divsi .host (i (ix2 b l)) 150#32) 1#32) (IntOp.divsi .host (i (ix2 b l)) 150#32) = _
  rw [e, hi, show (150#32 : BitVec 32) = BitVec.ofNat 32 150 from rfl, Routing.remsi_word _ hk (by omega) (by omega), Routing.divsi_word _ hk (by omega) (by omega)]
  rcases Nat.eq_zero_or_pos k with h0 | h0
  · rw [h0]; decide
  · rw [sign_pos k hk h0]
    rw [show IntOp.cmpi .ne 1#32 1#32 = 0#1 by decide, show ∀ z : BitVec 1, IntOp.andi 0#1 z = 0#1 by decide]
    rfl

section
variable (hx : ∀ q c, 0 ≤ scores x b q c)
include hx

theorem labels_apply (l : Fin 100) : labels x (ix2 b l) = BitVec.ofNat 32 (spot x b l.val).2.val := by
  have hn := num_lt (spot x b l.val)
  refine (gather_entry b tiled _ l ⟨num (spot x b l.val), hn⟩ ?_).trans ((tiled_apply _).trans ?_)
  · refine Eq.trans ?_ (wrapped_apply b 22500#32 (picked x).2 l (num (spot x b l.val)) (by omega) (picked_apply x b hx l).2)
    pointwise
  · refine congrArg (BitVec.ofNat 32) ?_
    show num (spot x b l.val) % 150 = _
    unfold num; have := (spot x b l.val).2.isLt; omega
theorem queries_apply (l : Fin 100) : queries x (ix2 b l) = BitVec.ofNat 32 (spot x b l.val).1.val := by
  have hn := num_lt (spot x b l.val)
  refine (floored_apply b (picked x).2 l (num (spot x b l.val)) (by omega) (picked_apply x b hx l).2).trans (congrArg (BitVec.ofNat 32) ?_)
  unfold num; have := (spot x b l.val).2.isLt; omega
end

/-! ## The masks -/

/-- The gather of whole masks reads, at `(b, l)`, image `b`'s mask of the query that index `(b, l)` names. -/
theorem gather_mask (idx : IVec S2x100x1 32) (l : Fin 100) (h w : Fin 384) (n : Fin 150) (hn : idx (ix3 b l 0) = BitVec.ofNat 32 n.val) :
    Host.gather gather_S2x150x384x384_S2x100x1_S2x100x384x384_23_1_0_0_1_2_11384384 M idx (ix4 b l h w) = M (ix4 b n h w) := by
  refine congrArg M (funext fun a => Fin.ext ?_)
  show GatherDims.start _ (ix4 b l h w) idx a + GatherDims.batchCoord _ (ix4 b l h w) a + GatherDims.offCoord _ (ix4 b l h w) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    exact dif_pos (List.mem_singleton.mpr rfl)
  | ⟨1, _⟩ =>
    rw [GatherDims.batchCoord_eq_zero _ _ _ (fun h => by cases h with | tail _ h => cases h),
      GatherDims.offCoord_eq_zero _ _ _ (fun h => ((GatherDims.mem_sKept _ _).mp h).1 (List.mem_singleton.mpr rfl)), Nat.add_zero]
    unfold GatherDims.start
    have at_take : ∀ z : S2x100x1.Idx, z = ix3 b l 0 → min (idx z).toInt.toNat 149 = n.val := by
      rintro z rfl
      have := n.isLt
      rw [hn, BitVec.toInt_eq_toNat_of_lt (by rw [BitVec.toNat_ofNat, Nat.mod_eq_of_lt] <;> omega), BitVec.toNat_ofNat, Nat.mod_eq_of_lt (by omega)]
      simp only [Int.toNat_natCast]; omega
    exact (dif_pos (List.mem_singleton.mpr rfl)).trans (at_take _ (funext fun b => Fin.ext (by match b with | ⟨0, _⟩ => rfl | ⟨1, _⟩ => rfl | ⟨2, _⟩ => rfl)))
  | ⟨2, _⟩ =>
    rw [GatherDims.batchCoord_eq_zero _ _ _ (fun h => by cases h with | tail _ h => cases h)]
    unfold GatherDims.start
    rw [dif_neg (fun h => by cases h with | tail _ h => cases h), Nat.zero_add]
    unfold GatherDims.offCoord
    rw [dif_pos ((GatherDims.mem_sKept _ _).mpr ⟨fun h => (by cases h with | tail _ h => cases h), fun h => (by cases h with | tail _ h => cases h)⟩)]
    rfl
  | ⟨3, _⟩ =>
    rw [GatherDims.batchCoord_eq_zero _ _ _ (fun h => by cases h with | tail _ h => cases h)]
    unfold GatherDims.start
    rw [dif_neg (fun h => by cases h with | tail _ h => cases h), Nat.zero_add]
    unfold GatherDims.offCoord
    rw [dif_pos ((GatherDims.mem_sKept _ _).mpr ⟨fun h => (by cases h with | tail _ h => cases h), fun h => (by cases h with | tail _ h => cases h)⟩)]
    rfl

theorem inside_apply (y : FVec Ideal S2x100x384x384 .f32) (l : Fin 100) (h w : Fin 384) : inside y (ix4 b l h w) = hit (y (ix4 b l h w)) := by
  unfold inside hit
  pointwise
  by_cases h : 0 < y (ix4 b l h w)
  · rw [if_pos h, decide_eq_true h]
    show (((1#1 : BitVec 1).toNat : ℝ) : EReal) = 1
    simp
  · rw [if_neg h, decide_eq_false h]
    show (((0#1 : BitVec 1).toNat : ℝ) : EReal) = 0
    simp
theorem sigmoid_apply (y : FVec Ideal S2x100x384x384 .f32) (l : Fin 100) (h w : Fin 384) : sigmoid y (ix4 b l h w) = Ideal.logistic (y (ix4 b l h w)) := by
  unfold sigmoid Ideal.logistic
  pointwise
theorem logistic_mul_hit (z : EReal) : Ideal.logistic z * hit z = Masks.sig z := by
  unfold hit Masks.sig; split
  · exact mul_one _
  · exact mul_zero _
/-- A sum over a flattened mask is the sum over its two axes. -/
theorem sum_row (g : Fin 384 → Fin 384 → EReal) : ∑ k : Fin 147456, g ⟨k.val / 384, by have := k.isLt; omega⟩ ⟨k.val % 384, by omega⟩ = ∑ h, ∑ w, g h w := by
  rw [Fin.sum_univ_tiles 384 384 rfl]
  refine Finset.sum_congr rfl fun h _ => Finset.sum_congr rfl fun w _ => ?_
  have hh := h.isLt; have hw := w.isLt
  congr 1
  · exact Fin.ext (by show (h.val * 384 + w.val) / 384 = h.val; omega)
  · exact Fin.ext (by show (h.val * 384 + w.val) % 384 = w.val; omega)
theorem inRow_apply (y : FVec Ideal S2x100x384x384 .f32) (l : Fin 100) (k : Fin 147456) :
    inRow y (ix3 b l k) = y (ix4 b l ⟨k.val / 384, by have := k.isLt; omega⟩ ⟨k.val % 384, by omega⟩) := by
  unfold inRow
  pointwise
theorem maskScores_apply (y : FVec Ideal S2x100x384x384 .f32) (l : Fin 100) : maskScores y (ix2 b l) = ratio fun h w => y (ix4 b l h w) := by
  unfold maskScores ratio
  rw [← sum_row, ← sum_row]
  pointwise
  simp only [inRow_apply, inside_apply, sigmoid_apply, logistic_mul_hit]

/-- The class maps. -/
theorem semOut_apply (c : Fin 150) (h w : Fin 384) : semOut x M (ix4 b c h w) = ∑ q, scores x b q c * Ideal.logistic (M (ix4 b q h w)) := by
  unfold semOut Ideal.logistic
  pointwise
  simp only [probs_apply]

section
variable (hx : ∀ b q c, 0 ≤ scores x b q c)
include hx

theorem column_apply (l : Fin 100) : column (queries x) (ix3 b l 0) = BitVec.ofNat 32 (spot x b l.val).1.val := by
  have hn := (spot x b l.val).1.isLt
  refine Eq.trans ?_ (wrapped_apply b 150#32 (queries x) l _ (by omega) (queries_apply x b (hx b) l))
  unfold column
  pointwise
/-- A query number in range passes the test for filling. -/
theorem inRows_apply (l : Fin 100) : inRows (queries x) (ix2 b l) = 1#1 := by
  refine Host.reduce_andi_one _ _ _ _ _ rfl fun z => ?_
  have hz : z = ix3 (z 0 : Fin 2) (z 1 : Fin 100) 0 := funext fun a => by
    match a with
    | ⟨0, _⟩ => rfl
    | ⟨1, _⟩ => rfl
    | ⟨2, _⟩ => exact Fin.ext (Nat.lt_one_iff.1 (z 2).isLt)
  have e : column (queries x) z = BitVec.ofNat 32 (spot x (z 0 : Fin 2) (z 1).val).1.val :=
    (congrArg (column (queries x)) hz).trans (column_apply x (z 0 : Fin 2) hx (z 1 : Fin 100))
  have hn := (spot x (z 0 : Fin 2) (z 1).val).1.isLt
  show IntOp.andi (IntOp.cmpi .sge (column (queries x) z) 0#32) (IntOp.cmpi .sle (column (queries x) z) 149#32) = 1#1
  rw [e]
  exact CallRef.in_rows _ (by rw [BitVec.toNat_ofNat]; omega)
theorem chosen_apply (l : Fin 100) (h w : Fin 384) : chosen x M (ix4 b l h w) = M (ix4 b (spot x b l.val).1 h w) := by
  have e : broadcastInDim S2x100x384x384 ![0, 1] bcast_S2x100_S2x100x384x384_0_1 (inRows (queries x)) (ix4 b l h w) = 1#1 := by
    refine Eq.trans ?_ (inRows_apply x b hx l)
    pointwise
  exact (congrArg₂ (fun c v => Scalar.select c v _) e (gather_mask M b _ l h w _ (column_apply x b hx l))).trans rfl

/-- The selected masks, where positive; and the scores. -/
theorem inst_apply (l : Fin 100) (h w : Fin 384) : inside (chosen x M) (ix4 b l h w) = hit (M (ix4 b (spot x b l.val).1 h w)) := by
  rw [inside_apply, chosen_apply x M b hx]
theorem scoresOut_apply (l : Fin 100) :
    scoresOut x M (ix2 b l) = scores x b (spot x b l.val).1 (spot x b l.val).2 * ratio fun h w => M (ix4 b (spot x b l.val).1 h w) := by
  have e : ∀ (u v : FVec Ideal S2x100 .f32) (i : S2x100.Idx) (p q : EReal), u i = p → v i = q → mulf u v i = p * q := by
    rintro u v i p q rfl rfl; rfl
  refine e _ _ _ _ _ (picked_apply x b (hx b) l).1 ((maskScores_apply b _ l).trans ?_)
  exact congrArg ratio (funext fun h => funext fun w => chosen_apply x M b hx l h w)
end

end Cert.Proof.Ref

end
-- ==== Proof.Value.lean ====
/-
  The whole program's four results are the reference's four results, at the extended reals; and the claims of the whole
  program.
-/
module

public import proofs.«01_k».proof.Defs
public import proofs.«01_k».proof.Proof.Whole
public import proofs.«01_k».proof.Proof.Ref
public import proofs.«01_k».proof.Proof.Gen.Pre_finite
public import Idealize.ShloMosaic.Lib.ReduceAll

@[expose] public section

noncomputable section

namespace Cert.Proof.Value

open Idealize.ShloMosaic Idealize.ShloMosaic.TcCoe
open Idealize.SL.Sem
open Cert.Proof.Pick (Tab Place num num_lt)
open Cert.Proof.Scores (scores soft)
open Cert.Proof.Masks (hit ratio)

/-! ## What the precondition says -/

instance : Subsingleton Cert.Pre_finite.S_.Idx := ⟨fun _ _ => funext fun a => a.elim0⟩

/-- An extended real whose absolute value is below infinity is neither infinity. -/
theorem finite_of_abs (z : EReal) (h : FloatOps.cmpf (F := Ideal) (φ := .f32) .olt (FloatOps.hostAbsf (F := Ideal) (φ := .f32) z) (FloatOps.ofBits (F := Ideal) .f32 0x7F800000#32) = 1#1) :
    z ≠ ⊤ ∧ z ≠ ⊥ := by
  have h' : Ideal.cmp .olt (max z (-z)) (Ideal.ofBits .f32 0x7F800000#32) = 1#1 := h
  have ht : Ideal.ofBits .f32 0x7F800000#32 = ⊤ := by simp [Ideal.ofBits, Ideal.ieee]
  rw [ht] at h'
  constructor
  · rintro rfl
    simp [Ideal.cmp] at h'
  · rintro rfl
    simp [Ideal.cmp] at h'

/-- The precondition at work: every logit is finite. -/
theorem logits_finite (x : FVec Ideal Cert.Pre_finite.S2x150x151 .f32) (M : FVec Ideal Cert.Pre_finite.S2x150x384x384 .f32)
    (h : Cert.Pre_finite.fn (F := Ideal) x M = fun _ => 1#1) (j : Cert.Pre_finite.S2x150x151.Idx) : x j ≠ ⊤ ∧ x j ≠ ⊥ :=
  finite_of_abs _ (Host.reduce_andi_all _ _ _ _ (fun a => a.elim0) (congrFun h fun a => a.elim0) j)

/-- So the scores are not negative. -/
theorem scores_nonneg (x : FVec Ideal Cert.Pre_finite.S2x150x151 .f32) (hx : ∀ j, x j ≠ ⊤ ∧ x j ≠ ⊥) (b : Fin 2) (q c : Fin 150) : 0 ≤ scores x b q c :=
  Scores.soft_nonneg _ (fun k => hx (ix3 b q k)) _

/-! ## The equations -/

/-- Two arrays are equal that are equal at every entry, the entry named by its coordinates. -/
theorem ext4 {α : Type} {p q r s : ℕ} {f g : Shape.Idx ⟨4, ![p, q, r, s]⟩ → α} (h : ∀ i j k l, f (ix4 i j k l) = g (ix4 i j k l)) : f = g :=
  funext fun j => (congrArg f (ix4_eta j)).symm.trans ((h _ _ _ _).trans (congrArg g (ix4_eta j)))
theorem ext2 {α : Type} {p q : ℕ} {f g : Shape.Idx ⟨2, ![p, q]⟩ → α} (h : ∀ i j, f (ix2 i j) = g (ix2 i j)) : f = g :=
  funext fun j => (congrArg f (ix2_eta j)).symm.trans ((h _ _).trans (congrArg g (ix2_eta j)))

variable (x : FVec Ideal Cert.KernelIdeal.S2x150x151 .f32) (M : FVec Ideal Cert.KernelIdeal.S2x150x384x384 .f32)

theorem place_eq (b : Fin 2) (l : Fin 128) : Select.at_ x b l = Ref.spot x b l.val := congrArg (fun p => Pick.taken p l.val) (Scores.table_eq x b)

theorem probsOf_apply (b : Fin 2) (q c : Fin 150) : Topk.probsOf x (ix3 b c q) = scores x b q c := by
  rw [← Scores.table_eq]
  unfold Topk.probsOf Select.table
  pointwise [Cert.KernelIdeal.Gen.k0_pay16]

/-- The class maps agree, whatever the logits. -/
theorem sem_eq : Regions.semOf M (Topk.probsOf x) = Ref.semOut x M := by
  refine ext4 fun b c h w => ?_
  refine (Masks.semOf_apply M _ _ _ _ _).trans ((Finset.sum_congr rfl fun q _ => ?_).trans (Ref.semOut_apply x M _ _ _ _).symm)
  rw [probsOf_apply]

section
variable (hx : ∀ b q c, 0 ≤ scores x b q c)
include hx

/-- The selected masks agree: of a row of the selection only the entry of the selected query is not zero. -/
theorem inst_eq : Regions.instOf M (Topk.onehotOf x) = Ref.inside (Ref.chosen x M) := by
  refine ext4 fun b l h w => ?_
  refine (Masks.instOf_apply M _ _ _ _ _).trans (Eq.trans ?_ (Ref.inst_apply x M _ hx _ _ _).symm)
  rw [Finset.sum_eq_single (Ref.spot x b l.val).1]
  · rw [Select.onehotOf_apply, place_eq, if_pos ⟨rfl, l.isLt⟩, one_mul]
  · intro q _ hq
    rw [Select.onehotOf_apply, place_eq, if_neg (fun h => hq h.1.symm), zero_mul]
  · exact fun h => absurd (Finset.mem_univ _) h

/-- Column `l` of the first hundred, as one of the 128. -/
abbrev lane (l : Fin 100) : Fin 128 := ⟨l.val, by have := l.isLt; omega⟩

omit hx in
theorem cut {α : Type} (y : Cert.KernelIdeal.S2x128.Idx → α) (h : Cert.KernelIdeal.S2x128.Slices ![0, 0] Cert.KernelIdeal.S2x100) (b : Fin 2) (l : Fin 100) :
    extractStridedSlice Cert.KernelIdeal.S2x100 ![0, 0] y h (ix2 b l) = y (ix2 b (lane l)) := by
  refine congrArg y (funext fun a => Fin.ext ?_)
  match a with
  | ⟨0, _⟩ => exact Nat.zero_add _
  | ⟨1, _⟩ => exact Nat.zero_add _

omit hx in
theorem number_eq (b : Fin 2) (l : Fin 100) : Select.number x b (lane l) = num (Ref.spot x b l.val) := by
  unfold Select.number
  rw [if_pos l.isLt, place_eq]

/-- The labels agree. -/
theorem labels_eq (h : Cert.KernelIdeal.S2x128.Slices ![0, 0] Cert.KernelIdeal.S2x100) :
    extractStridedSlice Cert.KernelIdeal.S2x100 ![0, 0] (Topk.labelsOf x) h = Ref.labels x := by
  refine ext2 fun b l => ?_
  rw [cut, Select.labelsOf_apply, number_eq]
  refine Eq.trans ?_ (Ref.labels_apply x b (hx b) l).symm
  refine congrArg (BitVec.ofNat 32) ?_
  unfold num; have := (Ref.spot x b l.val).2.isLt; omega

omit hx in
/-- The ratio a selected query's number names is that of the query. -/
theorem ratio_named (b : Fin 2) (l : Fin 100) : Sc.ratioIx b (Topk.queriesOf x (ix2 b (lane l))) = ix3 b 0 ⟨(Ref.spot x b l.val).1.val, by have := (Ref.spot x b l.val).1.isLt; omega⟩ := by
  have h1 := (Ref.spot x b l.val).1.isLt
  have h2 := (Ref.spot x b l.val).2.isLt
  rw [Select.queriesOf_apply, number_eq, show num (Ref.spot x b l.val) / 150 = (Ref.spot x b l.val).1.val by unfold num; omega]
  funext a
  match a with
  | ⟨0, _⟩ => rfl
  | ⟨1, _⟩ => rfl
  | ⟨2, _⟩ => exact Fin.ext (show (BitVec.ofNat 32 (Ref.spot x b l.val).1.val).toNat % 160 = (Ref.spot x b l.val).1.val by rw [BitVec.toNat_ofNat]; omega)

/-- The scores agree: the value selected times the ratio of its query's mask. -/
theorem scores_eq (A : Sc.Arrays Ideal) (d : Dev Cert.KernelIdeal.nD) (hv : A.v d = Topk.valsOf x) (hq : A.q d = Topk.queriesOf x) (hr : A.r d = Regions.ratiosOf M)
    (h : Cert.KernelIdeal.S2x128.Slices ![0, 0] Cert.KernelIdeal.S2x100) :
    extractStridedSlice Cert.KernelIdeal.S2x100 ![0, 0] (Sc.rescored A d) h = Ref.scoresOut x M := by
  refine ext2 fun b l => ?_
  have hl := l.isLt
  have hn : (Ref.spot x b l.val).1.val < 150 := (Ref.spot x b l.val).1.isLt
  have ev : A.v d (ix2 b (lane l)) = scores x b (Ref.spot x b l.val).1 (Ref.spot x b l.val).2 := by
    rw [hv, Select.valsOf_apply x b (lane l) hl, place_eq, Scores.table_eq]
    exact Pick.left_taken (hx b) (by omega)
  have er : A.r d (Sc.ratioIx b (A.q d (ix2 b (lane l)))) = ratio fun h w => M (ix4 b (Ref.spot x b l.val).1 h w) := by
    rw [hr, hq, ratio_named]
    exact Masks.ratiosOf_apply M b _ hn
  refine (cut _ _ b l).trans (Eq.trans ?_ (Ref.scoresOut_apply x M b hx l).symm)
  exact congrArg₂ (fun u v : EReal => u * v) ev er
end

/-! ## The claims of the whole program -/

theorem in_range (m : (ℓ : Loc Cert.KernelIdeal.nD Cert.KernelIdeal.τ Cert.KernelIdeal.sig) → Buf (Elt Ideal) ℓ) : Sc.InRange (Whole.arrays m) :=
  fun d j => Select.queriesOf_lt (Whole.logits m d) j

theorem frame_kernelIdeal : Cert.quiescent_KernelIdeal := fun m ρ _ =>
  (θ_run Cert.KernelIdeal.defs _ _).mono (fun _ h => ⟨fun c => ⟨(h.1 c).1, (h.1 c).2.1⟩, h.2⟩) (Whole.run_main (F := Ideal) m ρ (in_range m))

theorem frame_kernelIdeal_pre : Cert.quiescent_KernelIdeal_pre_finite := fun m ρ _ => frame_kernelIdeal m ρ trivial

theorem frame_reference : Cert.quiescent_ReferenceIdeal := fun m ρ _ =>
  (θ_run Cert.ReferenceIdeal.defs _ _).mono (fun r h => ⟨fun c => (h c).2.2.2.2, sem_eq_zero_of_no_sems (by decide) r.2⟩) (Ref.run m ρ)

theorem frame_reference_pre : Cert.quiescent_ReferenceIdeal_pre_finite := fun m ρ _ => frame_reference m ρ trivial

/-- On finite logits the kernel and the reference end with the same four results. -/
theorem algebraic_whole : Cert.algebraic_KernelIdeal_ReferenceIdeal_pre_finite := by
  intro m ρ m' ρ' hpre hm
  have hx : ∀ (c : Dev Cert.KernelIdeal.nD) (b : Fin 2) (q k : Fin 150), 0 ≤ scores (Whole.logits m c) b q k :=
    fun c => scores_nonneg _ fun j => logits_finite _ _ (hpre c) j
  refine ⟨fun c => Whole.outSem m c, fun c => Whole.outInst m c, fun c => Whole.outScores m c, fun c => Whole.outLabels m c, ?_, ?_⟩
  · exact (θ_run Cert.KernelIdeal.defs _ _).mono (fun _ h c => ⟨(h.1 c).2.2.1, (h.1 c).2.2.2.1, (h.1 c).2.2.2.2.1, (h.1 c).2.2.2.2.2, (h.1 c).1, (h.1 c).2.1⟩)
      (Whole.run_main (F := Ideal) m ρ (in_range m))
  · refine (θ_run Cert.ReferenceIdeal.defs _ _).mono (fun _ h c => ?_) (Ref.run m' ρ')
    have h := h c
    rw [(hm c).1, (hm c).2] at h
    refine ⟨h.1.trans (sem_eq (Whole.logits m c) (Whole.masks m c)).symm, h.2.1.trans (inst_eq (Whole.logits m c) (Whole.masks m c) (hx c)).symm,
      h.2.2.1.trans (scores_eq (Whole.logits m c) (Whole.masks m c) (hx c) (Whole.arrays m) c rfl rfl rfl _).symm,
      h.2.2.2.1.trans (labels_eq (Whole.logits m c) (hx c) _).symm, ?_, ?_⟩
    · exact h.2.2.2.2.1.trans (hm c).1.symm
    · exact h.2.2.2.2.2.trans (hm c).2.symm

end Cert.Proof.Value

end
-- ==== Proof.lean ====
module

public import proofs.«01_k».proof.Defs
public import proofs.«01_k».proof.Proof.CallClaims
public import proofs.«01_k».proof.Proof.Value

@[expose] public section

noncomputable section

namespace Cert.Proof

theorem claim : Cert.Claim :=
  ⟨Cert.KernelIdeal.Gen.facts, Cert.ReferenceIdeal.Gen.facts, Cert.Call.Gen.facts, Cert.CallIdeal.Gen.facts, Cert.CallReferenceIdeal.Gen.facts,
    Cert.Pre_finite.Gen.facts, Cert.Pre_queries.Gen.facts,
    Value.frame_kernelIdeal, Value.frame_kernelIdeal_pre, Value.frame_reference, Value.frame_reference_pre,
    frame_call, frame_callIdeal, frame_callReference, frame_callReference_pre,
    Value.algebraic_whole, trivial, algebraic_call⟩

end Cert.Proof

end
